-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S8x8x128 : Shape := ⟨3, ![8, 8, 128]⟩
abbrev S_ : Shape := ⟨0, ![]⟩
abbrev S8x1x128 : Shape := ⟨3, ![8, 1, 128]⟩
abbrev S8x8 : Shape := ⟨2, ![8, 8]⟩

class Facts : Prop where
  bcast_S_S1024x1 : S_.BroadcastsInDim S1024x1 (![] : Fin 0 → Fin S1024x1.rank)
  shapeCasts_S1024x1_S8x1x128 : S1024x1.ShapeCasts S8x1x128
  bcast_S8x1x128_S8x8x128_0_1_2 : S8x1x128.BroadcastsInDim S8x8x128 (![0, 1, 2] : Fin 3 → Fin S8x8x128.rank)
  natLt_1_32 : 1 < 32
  reducesTo_S8x8x128_S8x8_d2 : S8x8x128.ReducesTo [2] S8x8
  h_S_ : 0 < S_.numel
  bcast_S_S8x8 : S_.BroadcastsInDim S8x8 (![] : Fin 0 → Fin S8x8.rank)
  reducesTo_S8x8_S_d0_1 : S8x8.ReducesTo [0, 1] S_
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_
  bcast_S_S256x32 : S_.BroadcastsInDim S256x32 (![] : Fin 0 → Fin S256x32.rank)
  reducesTo_S256x32_S_d0_1 : S256x32.ReducesTo [0, 1] S_

variable [Facts]

def fn_part1 {F : FTy → Type} [FloatOps F] (main_v10 : IVec S_ 1) (main_v15 : IVec S_ 1) (main_v17 : FVec F S256x32 .f32) : IVec S_ 1 :=
  let main_cst_4 : FVec F S_ .f32 := constant S_ .f32 0x7F800000#32
  let main_v18 : FVec F S256x32 .f32 := broadcastInDim S256x32 ![] bcast_S_S256x32 main_cst_4
  let main_v19 : IVec S256x32 1 := cmpf .olt main_v17 main_v18
  let main_c_5 : IVec S_ 1 := constantI S_ 1 1#1
  let main_v20 : IVec S_ 1 := (fun x v => Host.reduce IntOp.andi x v reducesTo_S256x32_S_d0_1 h_S_) main_v19 main_c_5
  let main_v21 : IVec S_ 1 := andi main_v10 main_v15
  let main_v22 : IVec S_ 1 := andi main_v21 main_v20
  main_v22

def fn {F : FTy → Type} [FloatOps F] (main_arg0 : FVec F S1024x256 .bf16) (main_arg1 : FVec F S256x32 .bf16) (main_arg2 : IVec S1024x1 32) (main_arg3 : FVec F S4x256x512 .bf16) (main_arg4 : FVec F S256x512 .bf16) : IVec S_ 1 :=
  let main_v0 : IVec S8x8x128 32 := iotaInDim S8x8x128 32 1
  let main_c : IVec S_ 32 := constantI S_ 32 2#32
  let main_v1 : IVec S1024x1 32 := broadcastInDim S1024x1 ![] bcast_S_S1024x1 main_c
  let main_v2 : IVec S1024x1 32 := Host.shrsi main_arg2 main_v1
  let main_v3 : IVec S8x1x128 32 := shapeCast S8x1x128 main_v2 shapeCasts_S1024x1_S8x1x128
  let main_v4 : IVec S8x8x128 32 := broadcastInDim S8x8x128 ![0, 1, 2] bcast_S8x1x128_S8x8x128_0_1_2 main_v3
  let main_v5 : IVec S8x8x128 1 := cmpi .eq main_v4 main_v0
  let main_v6 : IVec S8x8x128 32 := (extui 32 · natLt_1_32) main_v5
  let main_c_0 : IVec S_ 32 := constantI S_ 32 0#32
  let main_v7 : IVec S8x8 32 := (fun x v => Host.reduce IntOp.addi x v reducesTo_S8x8x128_S8x8_d2 h_S_) main_v6 main_c_0
  let main_c_1 : IVec S_ 32 := constantI S_ 32 48#32
  let main_v8 : IVec S8x8 32 := broadcastInDim S8x8 ![] bcast_S_S8x8 main_c_1
  let main_v9 : IVec S8x8 1 := cmpi .sle main_v7 main_v8
  let main_c_2 : IVec S_ 1 := constantI S_ 1 1#1
  let main_v10 : IVec S_ 1 := (fun x v => Host.reduce IntOp.andi x v reducesTo_S8x8_S_d0_1 h_S_) main_v9 main_c_2
  let main_v11 : FVec F S1024x256 .f32 := (extf .f32 · bitsLt_bf16_f32) main_arg0
  let main_v12 : FVec F S1024x256 .f32 := Host.absf main_v11
  let main_cst : FVec F S_ .f32 := constant S_ .f32 0x7F800000#32
  let main_v13 : FVec F S1024x256 .f32 := broadcastInDim S1024x256 ![] bcast_S_S1024x256 main_cst
  let main_v14 : IVec S1024x256 1 := cmpf .olt main_v12 main_v13
  let main_c_3 : IVec S_ 1 := constantI S_ 1 1#1
  let main_v15 : IVec S_ 1 := (fun x v => Host.reduce IntOp.andi x v reducesTo_S1024x256_S_d0_1 h_S_) main_v14 main_c_3
  let main_v16 : FVec F S256x32 .f32 := (extf .f32 · bitsLt_bf16_f32) main_arg1
  let main_v17 : FVec F S256x32 .f32 := Host.absf main_v16
  fn_part1 (F := F) main_v10 main_v15 main_v17
-- ==== Pre_fits_ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S8x8x128 : Shape := ⟨3, ![8, 8, 128]⟩
abbrev S_ : Shape := ⟨0, ![]⟩
abbrev S8x1x128 : Shape := ⟨3, ![8, 1, 128]⟩
abbrev S8x8 : Shape := ⟨2, ![8, 8]⟩

class Facts : Prop where
  bcast_S_S1024x1 : S_.BroadcastsInDim S1024x1 (![] : Fin 0 → Fin S1024x1.rank)
  shapeCasts_S1024x1_S8x1x128 : S1024x1.ShapeCasts S8x1x128
  bcast_S8x1x128_S8x8x128_0_1_2 : S8x1x128.BroadcastsInDim S8x8x128 (![0, 1, 2] : Fin 3 → Fin S8x8x128.rank)
  natLt_1_32 : 1 < 32
  reducesTo_S8x8x128_S8x8_d2 : S8x8x128.ReducesTo [2] S8x8
  h_S_ : 0 < S_.numel
  bcast_S_S8x8 : S_.BroadcastsInDim S8x8 (![] : Fin 0 → Fin S8x8.rank)
  reducesTo_S8x8_S_d0_1 : S8x8.ReducesTo [0, 1] S_
  bitsLt_bf16_f32 : FTy.bits .bf16 < FTy.bits .f32
  bcast_S_S1024x256 : S_.BroadcastsInDim S1024x256 (![] : Fin 0 → Fin S1024x256.rank)
  reducesTo_S1024x256_S_d0_1 : S1024x256.ReducesTo [0, 1] S_
  bcast_S_S256x32 : S_.BroadcastsInDim S256x32 (![] : Fin 0 → Fin S256x32.rank)
  reducesTo_S256x32_S_d0_1 : S256x32.ReducesTo [0, 1] S_

variable [Facts]

def fn_part1 {F : FTy → Type} [FloatOps F] (main_v10 : IVec S_ 1) (main_v15 : IVec S_ 1) (main_v17 : FVec F S256x32 .f32) : IVec S_ 1 :=
  let main_cst_4 : FVec F S_ .f32 := constant S_ .f32 0x7F800000#32
  let main_v18 : FVec F S256x32 .f32 := broadcastInDim S256x32 ![] bcast_S_S256x32 main_cst_4
  let main_v19 : IVec S256x32 1 := cmpf .olt main_v17 main_v18
  let main_c_5 : IVec S_ 1 := constantI S_ 1 1#1
  let main_v20 : IVec S_ 1 := (fun x v => Host.reduce IntOp.andi x v reducesTo_S256x32_S_d0_1 h_S_) main_v19 main_c_5
  let main_v21 : IVec S_ 1 := andi main_v10 main_v15
  let main_v22 : IVec S_ 1 := andi main_v21 main_v20
  main_v22

def fn {F : FTy → Type} [FloatOps F] (main_arg0 : FVec F S1024x256 .bf16) (main_arg1 : FVec F S256x32 .bf16) (main_arg2 : IVec S1024x1 32) (main_arg3 : FVec F S32x256x512 .bf16) (main_arg4 : FVec F S256x512 .bf16) : IVec S_ 1 :=
  let main_v0 : IVec S8x8x128 32 := iotaInDim S8x8x128 32 1
  let main_c : IVec S_ 32 := constantI S_ 32 2#32
  let main_v1 : IVec S1024x1 32 := broadcastInDim S1024x1 ![] bcast_S_S1024x1 main_c
  let main_v2 : IVec S1024x1 32 := Host.shrsi main_arg2 main_v1
  let main_v3 : IVec S8x1x128 32 := shapeCast S8x1x128 main_v2 shapeCasts_S1024x1_S8x1x128
  let main_v4 : IVec S8x8x128 32 := broadcastInDim S8x8x128 ![0, 1, 2] bcast_S8x1x128_S8x8x128_0_1_2 main_v3
  let main_v5 : IVec S8x8x128 1 := cmpi .eq main_v4 main_v0
  let main_v6 : IVec S8x8x128 32 := (extui 32 · natLt_1_32) main_v5
  let main_c_0 : IVec S_ 32 := constantI S_ 32 0#32
  let main_v7 : IVec S8x8 32 := (fun x v => Host.reduce IntOp.addi x v reducesTo_S8x8x128_S8x8_d2 h_S_) main_v6 main_c_0
  let main_c_1 : IVec S_ 32 := constantI S_ 32 48#32
  let main_v8 : IVec S8x8 32 := broadcastInDim S8x8 ![] bcast_S_S8x8 main_c_1
  let main_v9 : IVec S8x8 1 := cmpi .sle main_v7 main_v8
  let main_c_2 : IVec S_ 1 := constantI S_ 1 1#1
  let main_v10 : IVec S_ 1 := (fun x v => Host.reduce IntOp.andi x v reducesTo_S8x8_S_d0_1 h_S_) main_v9 main_c_2
  let main_v11 : FVec F S1024x256 .f32 := (extf .f32 · bitsLt_bf16_f32) main_arg0
  let main_v12 : FVec F S1024x256 .f32 := Host.absf main_v11
  let main_cst : FVec F S_ .f32 := constant S_ .f32 0x7F800000#32
  let main_v13 : FVec F S1024x256 .f32 := broadcastInDim S1024x256 ![] bcast_S_S1024x256 main_cst
  let main_v14 : IVec S1024x256 1 := cmpf .olt main_v12 main_v13
  let main_c_3 : IVec S_ 1 := constantI S_ 1 1#1
  let main_v15 : IVec S_ 1 := (fun x v => Host.reduce IntOp.andi x v reducesTo_S1024x256_S_d0_1 h_S_) main_v14 main_c_3
  let main_v16 : FVec F S256x32 .f32 := (extf .f32 · bitsLt_bf16_f32) main_arg1
  let main_v17 : FVec F S256x32 .f32 := Host.absf main_v16
  fn_part1 (F := F) main_v10 main_v15 main_v17
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S384x256 : Shape := ⟨2, ![384, 256]⟩
abbrev S8x48x256 : Shape := ⟨3, ![8, 48, 256]⟩
abbrev S7 : Shape := ⟨1, ![7]⟩
abbrev S_ : Shape := ⟨0, ![]⟩
abbrev S1024x32 : Shape := ⟨2, ![1024, 32]⟩
abbrev S1024 : Shape := ⟨1, ![1024]⟩
abbrev S1x256x512 : Shape := ⟨3, ![1, 256, 512]⟩
abbrev S128x128 : Shape := ⟨2, ![128, 128]⟩
abbrev S128x48 : Shape := ⟨2, ![128, 48]⟩
abbrev S128x1 : Shape := ⟨2, ![128, 1]⟩
abbrev S128x8 : Shape := ⟨2, ![128, 8]⟩
abbrev S128x256 : Shape := ⟨2, ![128, 256]⟩
abbrev S48x256 : Shape := ⟨2, ![48, 256]⟩
abbrev S48x1 : Shape := ⟨2, ![48, 1]⟩
abbrev S384x1 : Shape := ⟨2, ![384, 1]⟩
abbrev S256x256 : Shape := ⟨2, ![256, 256]⟩
abbrev S1 : Shape := ⟨1, ![1]⟩
abbrev S1x48x256 : Shape := ⟨3, ![1, 48, 256]⟩
abbrev S128 : Shape := ⟨1, ![128]⟩
abbrev S128x384 : Shape := ⟨2, ![128, 384]⟩

abbrev nBuf : Space → Nat
  | .hbm => 6
  | .vmem => 12
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S4x256x512, .bf16⟩
  | .hbm, ⟨4, _⟩ => ⟨S256x512, .bf16⟩
  | .hbm, ⟨5, _⟩ => ⟨S1024x512, .f32⟩
  | .local _ .vmem, ⟨0, _⟩ => ⟨S1024x256, .bf16⟩
  | .local _ .vmem, ⟨1, _⟩ => ⟨S256x32, .bf16⟩
  | .local _ .vmem, ⟨2, _⟩ => ⟨S1024x1, .i32⟩
  | .local _ .vmem, ⟨3, _⟩ => ⟨S4x256x512, .bf16⟩
  | .local _ .vmem, ⟨4, _⟩ => ⟨S256x512, .bf16⟩
  | .local _ .vmem, ⟨5, _⟩ => ⟨S1024x512, .f32⟩
  | .local _ .vmem, ⟨6, _⟩ => ⟨S384x256, .bf16⟩
  | .local _ .vmem, ⟨7, _⟩ => ⟨S384x256, .bf16⟩
  | .local _ .vmem, ⟨8, _⟩ => ⟨S8x48x256, .bf16⟩
  | .local _ .vmem, ⟨9, _⟩ => ⟨S8x48x256, .bf16⟩
  | .local _ .vmem, ⟨10, _⟩ => ⟨S1024x256, .bf16⟩
  | .local _ .vmem, ⟨11, _⟩ => ⟨S1024x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c7_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v337 : BitVec 32 := Scalar.xori v2 c7_i32_110
  let c48_i32 : BitVec 32 := 48#32
  let v338 : BitVec 32 := Scalar.muli v337 c48_i32
  let c0_i32_118 : BitVec 32 := 0#32
  ![v338.toNat, 0]
def k0_dev8 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_110 : BitVec 32 := 7#32
  let v337 : BitVec 32 := Scalar.xori v2 c7_i32_110
  let c1_i32_114 : BitVec 32 := 1#32
  let v339 : BitVec 32 := Scalar.muli v337 c1_i32_114
  let v340 : BitVec 32 := Scalar.addi c0_i32_115 v339
  v340.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_119 : BitVec 32 := 6#32
  let v348 : BitVec 32 := Scalar.xori v2 c6_i32_119
  let c1_i32_124 : BitVec 32 := 1#32
  let v350 : BitVec 32 := Scalar.muli v348 c1_i32_124
  let v351 : BitVec 32 := Scalar.addi c0_i32_125 v350
  v351.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v359 : BitVec 32 := Scalar.xori v2 c5_i32_129
  let c1_i32_134 : BitVec 32 := 1#32
  let v361 : BitVec 32 := Scalar.muli v359 c1_i32_134
  let v362 : BitVec 32 := Scalar.addi c0_i32_135 v361
  v362.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v370 : BitVec 32 := Scalar.xori v2 c4_i32_139
  let c1_i32_144 : BitVec 32 := 1#32
  let v372 : BitVec 32 := Scalar.muli v370 c1_i32_144
  let v373 : BitVec 32 := Scalar.addi c0_i32_145 v372
  v373.toNat
def k0_dev12 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_149 : BitVec 32 := 3#32
  let v381 : BitVec 32 := Scalar.xori v2 c3_i32_149
  let c1_i32_154 : BitVec 32 := 1#32
  let v383 : BitVec 32 := Scalar.muli v381 c1_i32_154
  let v384 : BitVec 32 := Scalar.addi c0_i32_155 v383
  v384.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_159 : BitVec 32 := 2#32
  let v392 : BitVec 32 := Scalar.xori v2 c2_i32_159
  let c1_i32_164 : BitVec 32 := 1#32
  let v394 : BitVec 32 := Scalar.muli v392 c1_i32_164
  let v395 : BitVec 32 := Scalar.addi c0_i32_165 v394
  v395.toNat
def k0_dev14 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v403 : BitVec 32 := Scalar.xori v2 c1_i32_169
  let c1_i32_174 : BitVec 32 := 1#32
  let v405 : BitVec 32 := Scalar.muli v403 c1_i32_174
  let v406 : BitVec 32 := Scalar.addi c0_i32_175 v405
  v406.toNat
def k0_dev15 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_185 : BitVec 32 := 7#32
  let v429 : BitVec 32 := Scalar.xori v2 c7_i32_185
  let c1_i32_190 : BitVec 32 := 1#32
  let v431 : BitVec 32 := Scalar.muli v429 c1_i32_190
  let v432 : BitVec 32 := Scalar.addi c0_i32_191 v431
  v432.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_195 : BitVec 32 := 6#32
  let v440 : BitVec 32 := Scalar.xori v2 c6_i32_195
  let c1_i32_200 : BitVec 32 := 1#32
  let v442 : BitVec 32 := Scalar.muli v440 c1_i32_200
  let v443 : BitVec 32 := Scalar.addi c0_i32_201 v442
  v443.toNat
def k0_dev17 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_205 : BitVec 32 := 5#32
  let v451 : BitVec 32 := Scalar.xori v2 c5_i32_205
  let c1_i32_210 : BitVec 32 := 1#32
  let v453 : BitVec 32 := Scalar.muli v451 c1_i32_210
  let v454 : BitVec 32 := Scalar.addi c0_i32_211 v453
  v454.toNat
def k0_dev18 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_215 : BitVec 32 := 4#32
  let v462 : BitVec 32 := Scalar.xori v2 c4_i32_215
  let c1_i32_220 : BitVec 32 := 1#32
  let v464 : BitVec 32 := Scalar.muli v462 c1_i32_220
  let v465 : BitVec 32 := Scalar.addi c0_i32_221 v464
  v465.toNat
def k0_dev19 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_225 : BitVec 32 := 3#32
  let v473 : BitVec 32 := Scalar.xori v2 c3_i32_225
  let c1_i32_230 : BitVec 32 := 1#32
  let v475 : BitVec 32 := Scalar.muli v473 c1_i32_230
  let v476 : BitVec 32 := Scalar.addi c0_i32_231 v475
  v476.toNat
def k0_dev20 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_235 : BitVec 32 := 2#32
  let v484 : BitVec 32 := Scalar.xori v2 c2_i32_235
  let c1_i32_240 : BitVec 32 := 1#32
  let v486 : BitVec 32 := Scalar.muli v484 c1_i32_240
  let v487 : BitVec 32 := Scalar.addi c0_i32_241 v486
  v487.toNat
def k0_dev21 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_245 : BitVec 32 := 1#32
  let v495 : BitVec 32 := Scalar.xori v2 c1_i32_245
  let c1_i32_250 : BitVec 32 := 1#32
  let v497 : BitVec 32 := Scalar.muli v495 c1_i32_250
  let v498 : BitVec 32 := Scalar.addi c0_i32_251 v497
  v498.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v506 : BitVec 32 := Scalar.muli v2 c128_i32
  let v507 : Index := Scalar.indexCast v506
  let c0_255 : Index := 0#32
  ![v507.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c48_i32_281 : BitVec 32 := 48#32
  let v600 : BitVec 32 := Scalar.muli v2 c48_i32_281
  let v601 : Index := Scalar.indexCast v600
  let c0_282 : Index := 0#32
  ![v601.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_346 : BitVec 32 := 128#32
  let v659 : BitVec 32 := Scalar.muli v2 c128_i32_346
  let v660 : Index := Scalar.indexCast v659
  let c0_347 : Index := 0#32
  ![v660.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_349 : BitVec 32 := 128#32
  let v665 : BitVec 32 := Scalar.muli v2 c128_i32_349
  let c0_i32_355 : BitVec 32 := 0#32
  ![v665.toNat, 0]
def k0_dev22 (d0 : Dev nD) : Nat :=
  let c0_i32_354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_350 : BitVec 32 := 7#32
  let v666 : BitVec 32 := Scalar.xori v2 c7_i32_350
  let c1_i32_353 : BitVec 32 := 1#32
  let v667 : BitVec 32 := Scalar.muli v666 c1_i32_353
  let v668 : BitVec 32 := Scalar.addi c0_i32_354 v667
  v668.toNat
def k0_dev23 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_359 : BitVec 32 := 6#32
  let v677 : BitVec 32 := Scalar.xori v2 c6_i32_359
  let c1_i32_362 : BitVec 32 := 1#32
  let v678 : BitVec 32 := Scalar.muli v677 c1_i32_362
  let v679 : BitVec 32 := Scalar.addi c0_i32_363 v678
  v679.toNat
def k0_dev24 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_368 : BitVec 32 := 5#32
  let v688 : BitVec 32 := Scalar.xori v2 c5_i32_368
  let c1_i32_371 : BitVec 32 := 1#32
  let v689 : BitVec 32 := Scalar.muli v688 c1_i32_371
  let v690 : BitVec 32 := Scalar.addi c0_i32_372 v689
  v690.toNat
def k0_dev25 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_377 : BitVec 32 := 4#32
  let v699 : BitVec 32 := Scalar.xori v2 c4_i32_377
  let c1_i32_380 : BitVec 32 := 1#32
  let v700 : BitVec 32 := Scalar.muli v699 c1_i32_380
  let v701 : BitVec 32 := Scalar.addi c0_i32_381 v700
  v701.toNat
def k0_dev26 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_386 : BitVec 32 := 3#32
  let v710 : BitVec 32 := Scalar.xori v2 c3_i32_386
  let c1_i32_389 : BitVec 32 := 1#32
  let v711 : BitVec 32 := Scalar.muli v710 c1_i32_389
  let v712 : BitVec 32 := Scalar.addi c0_i32_390 v711
  v712.toNat
def k0_dev27 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_395 : BitVec 32 := 2#32
  let v721 : BitVec 32 := Scalar.xori v2 c2_i32_395
  let c1_i32_398 : BitVec 32 := 1#32
  let v722 : BitVec 32 := Scalar.muli v721 c1_i32_398
  let v723 : BitVec 32 := Scalar.addi c0_i32_399 v722
  v723.toNat
def k0_dev28 (d0 : Dev nD) : Nat :=
  let c0_i32_408 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_404 : BitVec 32 := 1#32
  let v732 : BitVec 32 := Scalar.xori v2 c1_i32_404
  let c1_i32_407 : BitVec 32 := 1#32
  let v733 : BitVec 32 := Scalar.muli v732 c1_i32_407
  let v734 : BitVec 32 := Scalar.addi c0_i32_408 v733
  v734.toNat
def k0_dev29 (d0 : Dev nD) : Nat :=
  let c0_i32_489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_485 : BitVec 32 := 7#32
  let v811 : BitVec 32 := Scalar.xori v2 c7_i32_485
  let c1_i32_488 : BitVec 32 := 1#32
  let v812 : BitVec 32 := Scalar.muli v811 c1_i32_488
  let v813 : BitVec 32 := Scalar.addi c0_i32_489 v812
  v813.toNat
def k0_dev30 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_494 : BitVec 32 := 6#32
  let v822 : BitVec 32 := Scalar.xori v2 c6_i32_494
  let c1_i32_497 : BitVec 32 := 1#32
  let v823 : BitVec 32 := Scalar.muli v822 c1_i32_497
  let v824 : BitVec 32 := Scalar.addi c0_i32_498 v823
  v824.toNat
def k0_dev31 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_503 : BitVec 32 := 5#32
  let v833 : BitVec 32 := Scalar.xori v2 c5_i32_503
  let c1_i32_506 : BitVec 32 := 1#32
  let v834 : BitVec 32 := Scalar.muli v833 c1_i32_506
  let v835 : BitVec 32 := Scalar.addi c0_i32_507 v834
  v835.toNat
def k0_dev32 (d0 : Dev nD) : Nat :=
  let c0_i32_516 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_512 : BitVec 32 := 4#32
  let v844 : BitVec 32 := Scalar.xori v2 c4_i32_512
  let c1_i32_515 : BitVec 32 := 1#32
  let v845 : BitVec 32 := Scalar.muli v844 c1_i32_515
  let v846 : BitVec 32 := Scalar.addi c0_i32_516 v845
  v846.toNat
def k0_dev33 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_521 : BitVec 32 := 3#32
  let v855 : BitVec 32 := Scalar.xori v2 c3_i32_521
  let c1_i32_524 : BitVec 32 := 1#32
  let v856 : BitVec 32 := Scalar.muli v855 c1_i32_524
  let v857 : BitVec 32 := Scalar.addi c0_i32_525 v856
  v857.toNat
def k0_dev34 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_530 : BitVec 32 := 2#32
  let v866 : BitVec 32 := Scalar.xori v2 c2_i32_530
  let c1_i32_533 : BitVec 32 := 1#32
  let v867 : BitVec 32 := Scalar.muli v866 c1_i32_533
  let v868 : BitVec 32 := Scalar.addi c0_i32_534 v867
  v868.toNat
def k0_dev35 (d0 : Dev nD) : Nat :=
  let c0_i32_543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_539 : BitVec 32 := 1#32
  let v877 : BitVec 32 := Scalar.xori v2 c1_i32_539
  let c1_i32_542 : BitVec 32 := 1#32
  let v878 : BitVec 32 := Scalar.muli v877 c1_i32_542
  let v879 : BitVec 32 := Scalar.addi c0_i32_543 v878
  v879.toNat
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_546 : BitVec 32 := 128#32
  let v886 : BitVec 32 := Scalar.muli v2 c128_i32_546
  let v887 : Index := Scalar.indexCast v886
  let c0_547 : Index := 0#32
  ![v887.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_550 : BitVec 32 := 128#32
  let v895 : BitVec 32 := Scalar.muli v2 c128_i32_550
  let v896 : Index := Scalar.indexCast v895
  let c256 : Index := 256#32
  ![v896.toNat, 256]
def k0_off8 (d0 : Dev nD) (c1_i32_559 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v910 : BitVec 32 := Scalar.xori v2 c1_i32_559
  let c128_i32_560 : BitVec 32 := 128#32
  let v911 : BitVec 32 := Scalar.muli v910 c128_i32_560
  let v912 : Index := Scalar.indexCast v911
  let c0_561 : Index := 0#32
  ![v912.toNat, 0]
def k0_off9 (d0 : Dev nD) (c1_i32_559 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v910 : BitVec 32 := Scalar.xori v2 c1_i32_559
  let c128_i32_560 : BitVec 32 := 128#32
  let v911 : BitVec 32 := Scalar.muli v910 c128_i32_560
  let v915 : Index := Scalar.indexCast v911
  let c0_562 : Index := 0#32
  ![v915.toNat, 0]
def k0_off10 (d0 : Dev nD) (c1_i32_636 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1029 : BitVec 32 := Scalar.xori v2 c1_i32_636
  let c128_i32_637 : BitVec 32 := 128#32
  let v1030 : BitVec 32 := Scalar.muli v1029 c128_i32_637
  let v1031 : Index := Scalar.indexCast v1030
  let c256_638 : Index := 256#32
  ![v1031.toNat, 256]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x1 : Shape := ⟨2, ![1024, 1]⟩
abbrev S32x256x512 : Shape := ⟨3, ![32, 256, 512]⟩
abbrev S256x512 : Shape := ⟨2, ![256, 512]⟩
abbrev S1024x32 : Shape := ⟨2, ![1024, 32]⟩
abbrev S_ : Shape := ⟨0, ![]⟩
abbrev S1024 : Shape := ⟨1, ![1024]⟩
abbrev S1024x512 : Shape := ⟨2, ![1024, 512]⟩
abbrev S1024x32x512 : Shape := ⟨3, ![1024, 32, 512]⟩
abbrev S1024x32x1 : Shape := ⟨3, ![1024, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x1, .i32⟩
  | .hbm, ⟨3, _⟩ => ⟨S32x256x512, .bf16⟩
  | .hbm, ⟨4, _⟩ => ⟨S256x512, .bf16⟩
  | .hbm, ⟨5, _⟩ => ⟨S1024x256, .f32⟩
  | .hbm, ⟨6, _⟩ => ⟨S256x32, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x32, .f32⟩
  | .hbm, ⟨18, _⟩ => ⟨S1024x32, .f32⟩
  | .hbm, ⟨19, _⟩ => ⟨S256x512, .f32⟩
  | .hbm, ⟨20, _⟩ => ⟨S1024x512, .f32⟩
  | .hbm, ⟨21, _⟩ => ⟨S32x256x512, .f32⟩
  | .hbm, ⟨22, _⟩ => ⟨S1024x32x512, .f32⟩
  | .hbm, ⟨23, _⟩ => ⟨S1024x32, .i32⟩
  | .hbm, ⟨24, _⟩ => ⟨S1024x32, .i32⟩
  | .hbm, ⟨25, _⟩ => ⟨S1024x32, .i1⟩
  | .hbm, ⟨26, _⟩ => ⟨S_, .f32⟩
  | .hbm, ⟨27, _⟩ => ⟨S_, .f32⟩
  | .hbm, ⟨28, _⟩ => ⟨S1024x32, .f32⟩
  | .hbm, ⟨29, _⟩ => ⟨S1024x32, .f32⟩
  | .hbm, ⟨30, _⟩ => ⟨S1024x32x1, .f32⟩
  | .hbm, ⟨31, _⟩ => ⟨S1024x32x512, .f32⟩
  | .hbm, ⟨32, _⟩ => ⟨S1024x32x512, .f32⟩
  | .hbm, ⟨33, _⟩ => ⟨S_, .f32⟩
  | .hbm, ⟨34, _⟩ => ⟨S1024x512, .f32⟩
  | .hbm, ⟨35, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Ops.lean ====
/-
# Loads, stores and shares of memrefs held by what they read

`owns c m q X` holds the elements memref `m` names on thread `c`, reading `X` through `m`. The lemmas here step a
program's load or store from such a holding to such a holding, and rewrite a holding as one points-to at one fixed
buffer content, so that its share can be dealt out and joined again.
-/
module

public import Idealize.ShloMosaic.Lib.Memref
public import Idealize.ShloMosaic.Lib.MemrefSat
public import Idealize.ShloMosaic.Lib.Transfers
public import Idealize.ShloMosaic.Lib.Tactic
public import Idealize.ShloMosaic.Lib.Writes
public import Idealize.ShloMosaic.Lib.Ring

@[expose] public section

noncomputable section

namespace Cert.Moe

open Idealize.ShloMosaic
open Idealize.ShloMosaic.TcCoe
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Ix : Type} [DecidableEq Ix] {Name : Type} [DecidableEq Name] {U : Type} [URA U] {Lvl : Type}

local notation "𝕄" => MT nD τ sig Ix Val Name U Lvl

variable (c : Thread nD τ) {sp : Space} {sh : Shape} {e : EltTy} (m : Memref sig c.2.kind sp sh e) (q : PosShare TreeShare)

/-- Some content of the buffer a memref names. -/
def anyBuf : m.view.ty.Contents Val := fun _ => Classical.arbitrary _

/-- The content of the memref's buffer that reads `X` through the memref and is arbitrary elsewhere. -/
def bufOf (X : sh.Idx → Val e) : Buf Val (m.view.loc c) := m.view.write Val (anyBuf c m) X Finset.univ

/-- A holding reading `X` is the points-to of the memref's elements at `bufOf X`. -/
theorem owns_eq (X : sh.Idx → Val e) :
    (owns c m q X : sProp 𝕄) = (m.view.loc c ↦[m.view.set]{q} bufOf c m X) := by
  have hX : m.view.read Val (bufOf c m X) = X := View.read_write_univ _ _
  refine BI.equiv_iff.mp ⟨?_, ?_⟩
  · show iprop(∃ f, ⌜m.view.read Val f = X⌝ ∗ m.view.loc c ↦[m.view.set]{q} f) ⊢ (_ : sProp 𝕄)
    iintro ⟨%f, %hf, H⟩
    have e : (m.view.loc c ↦[m.view.set]{q} f : sProp 𝕄) = m.view.loc c ↦[m.view.set]{q} bufOf c m X :=
      pointsTo_congr fun i hi => by
        rw [View.set, Finset.mem_map] at hi
        obtain ⟨j, -, rfl⟩ := hi
        have h := congrFun (hf.trans hX.symm) j
        rw [View.read_apply, View.read_apply] at h
        exact (cast_inj _).mp h
    rw [← e]
    iexact H
  · have h := owns_intro (Val := Val) (Ix := Ix) (Name := Name) (U := U) (Lvl := Lvl) c m q (bufOf c m X)
    rw [hX] at h
    exact h

/-- A holding deals its share out among the members of a nonempty ordered set, and back. -/
theorem owns_deal {ι : Type} [LinearOrder ι] (s : Finset ι) (hs : s.Nonempty) (X : sh.Idx → Val e) :
    (owns c m q X : sProp 𝕄) = bigSep s fun i => owns c m (dealOf q s i) X := by
  rw [owns_eq, pointsTo_deal s hs q]
  exact bigSep_congr fun i _ => (owns_eq c m _ X).symm

section Steps

variable {Λ : Labels} [Preorder Lvl] {defs : Defs nD τ sig Val Λ} (𝒱 : Variants) (bd : Option 𝒱.V) {Γ : PendingWaitsCtx sig Ix}
  (E : Set Name) {α : Type} {Q : α → sProp (MT nD τ sig Ix Val Name U Lvl)}
variable {cs : CoreSpace} (M : Memref sig c.2.kind cs sh e)

/-- A load through a rectangle of a memref held reading `X` continues at `X`'s values on the rectangle. -/
theorem wp_load_owns {r : Rect sh} {hl : M.view.LoadsAt r} {k : (r.shape.Idx → Val e) → Prog (TpuEff nD τ sig Val Λ c.2) α}
    (X : sh.Idx → Val e) :
    (owns c M q X : sProp 𝕄)
      ⊢ iprop((owns c M q X -∗ wp frame (wpE' defs 𝒱 c bd Γ) E (k fun j => X (r.emb j)) Q)
        -∗ wp frame (wpE' defs 𝒱 c bd Γ) E (.op (.load M r hl) k) Q) := by
  have hX : (M.access r).read Val (bufOf c M X) = fun j => X (r.emb j) := by
    funext j
    show M.view.read Val (bufOf c M X) (r.emb j) = _
    rw [show M.view.read Val (bufOf c M X) = X from View.read_write_univ _ _]
  have h := wp_load_rect (defs := defs) 𝒱 c bd (Γ := Γ) E (Q := Q) (m := M) (r := r) (hl := hl) (k := k) (q := q)
    (f := bufOf c M X) (S := M.view.set) (View.set_slice_subset _ _)
  rw [hX] at h
  rw [owns_eq]
  exact h

/-- A load through the rectangle of a slice held reading `X` continues at `X`. -/
theorem wp_load_owns_slice {r : Rect sh} {hr : ∀ a, r.stride a = 1} {hl : M.view.LoadsAt r}
    {k : (r.shape.Idx → Val e) → Prog (TpuEff nD τ sig Val Λ c.2) α} (X : r.shape.Idx → Val e) :
    (owns c (M.slice r hr) q X : sProp 𝕄)
      ⊢ iprop((owns c (M.slice r hr) q X -∗ wp frame (wpE' defs 𝒱 c bd Γ) E (k X) Q)
        -∗ wp frame (wpE' defs 𝒱 c bd Γ) E (.op (.load M r hl) k) Q) := by
  have hX : (M.access r).read Val (bufOf c (M.slice r hr) X) = X := View.read_write_univ (v := (M.slice r hr).view) _ _
  have h := wp_load_rect (defs := defs) 𝒱 c bd (Γ := Γ) E (Q := Q) (m := M) (r := r) (hl := hl) (k := k) (q := q)
    (f := bufOf c (M.slice r hr) X) (S := (M.access r).set) subset_rfl
  rw [hX] at h
  rw [owns_eq]
  exact h

/-- A store of `w` through the rectangle of a slice held leaves the slice reading `w`. -/
theorem wp_store_owns_slice {r : Rect sh} {hr : ∀ a, r.stride a = 1} {w : r.shape.Idx → Val e}
    {hx : (M.access r).Stores Finset.univ} {hm : Finset.univ = Finset.univ ∨ ∀ a, r.stride a = 1}
    {k : PUnit → Prog (TpuEff nD τ sig Val Λ c.2) α} (X : r.shape.Idx → Val e) :
    (owns c (M.slice r hr) fullShare X : sProp 𝕄)
      ⊢ iprop((owns c (M.slice r hr) fullShare w -∗ wp frame (wpE' defs 𝒱 c bd Γ) E (k ⟨⟩) Q)
        -∗ wp frame (wpE' defs 𝒱 c bd Γ) E (.op (.store M r w Finset.univ hx hm) k) Q) := by
  have h := wp_store (defs := defs) 𝒱 c bd (Γ := Γ) E (Q := Q) (m := M) (r := r) (w := w) (Mk := Finset.univ) (hx := hx)
    (hm := hm) (k := k) (f := bufOf c (M.slice r hr) X) (S := (M.access r).set) subset_rfl
  have hw : ((M.access r).loc c ↦[(M.access r).set]{fullShare} (M.access r).write Val (bufOf c (M.slice r hr) X) w Finset.univ : sProp 𝕄)
      ⊢ owns c (M.slice r hr) fullShare w := by
    have h' := owns_intro (Val := Val) (Ix := Ix) (Name := Name) (U := U) (Lvl := Lvl) c (M.slice r hr) fullShare
      ((M.slice r hr).view.write Val (bufOf c (M.slice r hr) X) w Finset.univ)
    rw [View.read_write_univ] at h'
    exact h'
  rw [owns_eq c (M.slice r hr) fullShare X]
  exact h.trans (wand_mono_left (wand_mono_left hw))

/-- A store of `w` through a rectangle of a memref held reading `X` leaves it reading `X` with `w` laid over it. -/
theorem wp_store_owns {r : Rect sh} {w : r.shape.Idx → Val e}
    {hx : (M.access r).Stores Finset.univ} {hm : Finset.univ = Finset.univ ∨ ∀ a, r.stride a = 1}
    {k : PUnit → Prog (TpuEff nD τ sig Val Λ c.2) α} (hr : ∀ a, r.stride a = 1) (X : sh.Idx → Val e) :
    (owns c M fullShare X : sProp 𝕄)
      ⊢ iprop((owns c M fullShare (r.overlay X w) -∗ wp frame (wpE' defs 𝒱 c bd Γ) E (k ⟨⟩) Q)
        -∗ wp frame (wpE' defs 𝒱 c bd Γ) E (.op (.store M r w Finset.univ hx hm) k) Q) := by
  iintro H Hk
  ihave H' := (owns_slice_split c M fullShare r hr X) $$ H
  icases H' with ⟨Hs, %f, %hf, Hr⟩
  iapply (wp_store_owns_slice c 𝒱 bd E M (hr := hr) _) $$ Hs
  iintro Hs
  iapply Hk
  rw [← hf]
  iapply (owns_slice_join c M fullShare r hr w f)
  isplitl [Hs]
  · iexact Hs
  · iexact Hr

end Steps

/-- A slice named by equal offsets is the same slice, whatever the in-bounds evidence. -/
theorem owns_slice_off {off off' size : Fin sh.rank → Nat} (h : off = off') (p : ∀ a, off a + size a ≤ sh.size a)
    (p' : ∀ a, off' a + size a ≤ sh.size a) (X : (⟨sh.rank, size⟩ : Shape).Idx → Val e) :
    (owns c (m.slice (Rect.unit off size p) fun _ => rfl) q X : sProp 𝕄)
      = owns c (m.slice (Rect.unit off' size p') fun _ => rfl) q X := by
  subst h; rfl

end Cert.Moe
-- ==== Proof.Wire.lean ====
/-
# The wire protocol of the exchange

Eight devices, each a TensorCore. Device `c` exchanges with the seven others, `peer k c` being the device whose number is
`c`'s with the bits of `k + 1` flipped; `peer k` is its own inverse.

* **Barrier.** One barrier semaphore per device. Device `c` signals each of its seven peers once and waits for 7. The signal
  `p` pays into `c`'s barrier hands over the landing buffers on `p` that `c` will copy into: slot `k + 1` of each of the two
  staging buffers and row block `c` of each of the two gather buffers.
* **Reduce-scatter**, one per column half `h`. Device `c` copies the 48-row chunk for `peer k c` of its send buffer into slot
  `k + 1` of the peer's staging buffer, crediting step `k` of its send array and of the peer's receive array. The receive
  credit hands over the slot reading that chunk; the send credit hands the chunk back.
* **All-gather**, one per column half. Device `c` copies its own 128-row block of the gather buffer into the same block of
  every peer's. The seven copies read one source, so each takes a share of it. The receive credit hands over the block
  reading the sender's block; the send credit hands the share back.

The schedule is stated for any contents `K` of the send buffers and of the reduced blocks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import proofs.«01_k».proof.Proof.Ops

@[expose] public section

noncomputable section

namespace Cert.Moe

open Cert.KernelIdeal Cert.KernelIdeal.Gen

open Idealize.ShloMosaic
open Idealize.ShloMosaic.TcCoe
open Idealize.ShloMosaic.Transfers (dealOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline library's rounds and the exchange's, whose duties are named by the step that pays them. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

instance elt_nonempty (e : EltTy) : Nonempty (Elt F e) := inferInstance

/-! ## Peers -/

/-- The device whose number is `c`'s with the bits of `s` flipped. -/
def px (s : Fin 8) (c : Dev nD) : Dev nD := ⟨(c.val ^^^ s.val) % 8, Nat.mod_lt _ (by decide)⟩
/-- The partner of step `k`. -/
abbrev peer (k : Fin 7) (c : Dev nD) : Dev nD := px k.succ c

/-- Flipping the same bits twice gives the device back. -/
theorem px_px (s : Fin 8) (c : Dev nD) : px s (px s c) = c := by revert s c; decide
/-- Flipping no bits gives the device itself. -/
theorem px_zero (c : Dev nD) : px 0 c = c := by revert c; decide
/-- Flipping different bits of one device gives different devices. -/
theorem px_inj (c : Dev nD) : Function.Injective fun s => px s c := by revert c; decide
/-- The partner of a device's partner at the same step is the device. -/
theorem peer_inv (k : Fin 7) (c : Dev nD) : peer k (peer k c) = c := px_px _ c
def peerEquiv (k : Fin 7) : Dev nD ≃ Dev nD := ⟨peer k, peer k, peer_inv k, peer_inv k⟩
/-- The devices as seen from `c`. -/
def pxEquiv (c : Dev nD) : Fin 8 ≃ Dev nD := Equiv.ofBijective (fun s => px s c) (by revert c; decide)

/-! ## Memrefs -/

/-- The send buffer, the staging buffer and the gather buffer of column half `h`. -/
def sbM : Fin 2 → Memref sig .tc .vmem S384x256 .bf16 := ![Memref.whole cc0_scratch0, Memref.whole cc0_scratch1]
def stM : Fin 2 → Memref sig .tc .vmem S8x48x256 .bf16 := ![Memref.whole cc0_scratch2, Memref.whole cc0_scratch3]
def gaM : Fin 2 → Memref sig .tc .vmem S1024x256 .bf16 := ![Memref.whole cc0_scratch4, Memref.whole cc0_scratch5]

/-- The 48 rows for device `d` lie within a send buffer. -/
theorem chunk_inb (d : Fin 8) : ∀ a, (![48 * d.val, 0] : Fin 2 → ℕ) a + S48x256.size a ≤ S384x256.size a := by revert d; decide
/-- Slot `s` lies within a staging buffer. -/
theorem slot_inb (s : Fin 8) : ∀ a, (![s.val, 0, 0] : Fin 3 → ℕ) a + S1x48x256.size a ≤ S8x48x256.size a := by revert s; decide
/-- The 128 rows of device `d` lie within a gather buffer. -/
theorem block_inb (d : Fin 8) : ∀ a, (![128 * d.val, 0] : Fin 2 → ℕ) a + S128x256.size a ≤ S1024x256.size a := by revert d; decide

/-- The 48 rows of a send buffer for device `d`, slot `s` of a staging buffer, the 128 rows of a gather buffer of device `d`. -/
abbrev chunkR (d : Fin 8) : Rect S384x256 := Rect.unit ![48 * d.val, 0] S48x256.size (chunk_inb d)
abbrev slotR (s : Fin 8) : Rect S8x48x256 := Rect.unit ![s.val, 0, 0] S1x48x256.size (slot_inb s)
abbrev blockR (d : Fin 8) : Rect S1024x256 := Rect.unit ![128 * d.val, 0] S128x256.size (block_inb d)

abbrev chunkM (h : Fin 2) (d : Fin 8) : Memref sig .tc .vmem S48x256 .bf16 := (sbM h).slice (chunkR d) fun _ => rfl
abbrev slotRM (h : Fin 2) (s : Fin 8) : Memref sig .tc .vmem S1x48x256 .bf16 := (stM h).slice (slotR s) fun _ => rfl
abbrev slotM (h : Fin 2) (s : Fin 8) : Memref sig .tc .vmem S48x256 .bf16 := (slotRM h s).squeeze S48x256 squeezes_S1x48x256_S48x256
abbrev blockM (h : Fin 2) (d : Fin 8) : Memref sig .tc .vmem S128x256 .bf16 := (gaM h).slice (blockR d) fun _ => rfl

/-! ## Semaphores and cells -/

abbrev barS : Sem sig := (SemArray.scalar (sig.barrier 0 rfl) : Sems sig S_).sem

/-- The eight arrays of seven DMA semaphores, and semaphore `k` of array `a`. -/
def semA : Fin 8 → DmaSems sig S7 :=
  ![cc0_scratch6, cc0_scratch7, cc0_scratch8, cc0_scratch9, cc0_scratch10, cc0_scratch11, cc0_scratch12, cc0_scratch13]
def dsem (a : Fin 8) (k : Fin 7) : DmaSem sig := ⟨6 + 7 * a.val + k.val, by change _ < 62; omega⟩

/-- Place `k` lies within an array of seven semaphores. -/
theorem sem_inb (k : Fin 7) : ∀ a, (![k.val] : Fin 1 → ℕ) a + S1.size a ≤ S7.size a := by revert k; decide
/-- The semaphore the program names as entry `k` of array `a` is `dsem a k`. -/
theorem semA_eq (a : Fin 8) (k : Fin 7) :
    (((semA a).slice (Rect.unit ![k.val] S1.size (sem_inb k))).squeeze S_ squeezes_S1_S_).sem = dsem a k := by
  revert a k; decide

/-- The array and the step of a DMA semaphore. -/
def arrOf (q : DmaSem sig) : Fin 8 := ⟨(q.val - 6) / 7 % 8, Nat.mod_lt _ (by decide)⟩
def stepOf (q : DmaSem sig) : Fin 7 := ⟨(q.val - 6) % 7, Nat.mod_lt _ (by decide)⟩
/-- The array of semaphore `k` of array `a` is `a`. -/
theorem arrOf_dsem (a : Fin 8) (k : Fin 7) : arrOf (dsem a k) = a := by revert a k; decide
/-- The step of semaphore `k` of array `a` is `k`. -/
theorem stepOf_dsem (a : Fin 8) (k : Fin 7) : stepOf (dsem a k) = k := by revert a k; decide
/-- The number of an exchange semaphore is at least six. -/
theorem six_le_dsem (a : Fin 8) (k : Fin 7) : 6 ≤ (dsem a k).val := by show 6 ≤ 6 + _ + _; omega
/-- Two exchange semaphores are the same only if their arrays and their steps are. -/
theorem dsem_inj {a a' : Fin 8} {k k' : Fin 7} (h : dsem a k = dsem a' k') : a = a' ∧ k = k' := by
  constructor
  · rw [← arrOf_dsem a k, h, arrOf_dsem]
  · rw [← stepOf_dsem a k, h, stepOf_dsem]

abbrev barCell (c : Dev nD) : GSem nD τ sig := ((c : Thread nD τ), .reg barS)
abbrev dCell (a : Fin 8) (k : Fin 7) (c : Dev nD) : GSem nD τ sig := ((c : Thread nD τ), .dma (dsem a k))

/-- Column half `h`'s arrays: send and receive of the reduce-scatter, send and receive of the all-gather. -/
abbrev rsS (h : Fin 2) : Fin 8 := ⟨2 * h.val, by omega⟩
abbrev rsR (h : Fin 2) : Fin 8 := ⟨2 * h.val + 1, by omega⟩
abbrev agS (h : Fin 2) : Fin 8 := ⟨4 + 2 * h.val, by omega⟩
abbrev agR (h : Fin 2) : Fin 8 := ⟨4 + 2 * h.val + 1, by omega⟩

/-- The credit of a chunk's copy and of a block's. -/
abbrev NR : ℕ := (slotM 0 0).view.dmaCredit
abbrev NA : ℕ := (blockM 0 0).view.dmaCredit
/-- A chunk's copy has a positive credit. -/
theorem NR_pos : 0 < NR := View.dmaCredit_pos _ (by decide)
/-- A block's copy has a positive credit. -/
theorem NA_pos : 0 < NA := View.dmaCredit_pos _ (by decide)
def cr (a : Fin 8) : ℕ := if a.val < 4 then NR else NA
/-- The credit of every array's copies is positive. -/
theorem cr_pos (a : Fin 8) : 0 < cr a := by unfold cr; split; exacts [NR_pos, NA_pos]

/-! ## Contents -/

/-- What the send buffers of each device read when the reduce-scatter starts, and what each device's reduced block reads. -/
structure Cont (F : FTy → Type) where
  sb : Fin 2 → Dev nD → S384x256.Idx → Elt F .bf16
  blk : Fin 2 → Dev nD → S128x256.Idx → Elt F .bf16

variable (K : Cont F)

/-- The chunk for device `d` of device `c`'s send buffer. -/
def Cont.chunk (h : Fin 2) (c d : Dev nD) : S48x256.Idx → Elt F .bf16 := fun j => K.sb h c ((chunkR d).emb j)

/-- The share of its own block each of the seven all-gather copies reads at. -/
def agq (k : Fin 7) : PosShare TreeShare := dealOf fullShare (Finset.univ : Finset (Fin 7)) k

/-! ## The schedule -/

/-- What `peer k c` pays device `c`'s barrier with: the landing buffers on `peer k c` that `c` copies into. -/
def barPay (c : Dev nD) (k : Fin 7) : sProp 𝕄 :=
  bigSep Finset.univ fun h : Fin 2 => iprop((∃ X, ownsTc (peer k c) (slotM h k.succ) fullShare X)
    ∗ (∃ X, ownsTc (peer k c) (blockM h c) fullShare X))

/-- What a DMA cell of device `c` hands over at its one credit. -/
def dmaPay (c : Dev nD) (a : Fin 8) (k : Fin 7) : sProp 𝕄 :=
  let h : Fin 2 := ⟨a.val / 2 % 2, Nat.mod_lt _ (by decide)⟩
  if a.val < 4 then
    if a.val % 2 = 0 then ownsTc c (chunkM h (peer k c)) fullShare (K.chunk h c (peer k c))
    else ownsTc c (slotM h k.succ) fullShare (K.chunk h (peer k c) c)
  else
    if a.val % 2 = 0 then ownsTc c (blockM h c) (agq k) (K.blk h c)
    else ownsTc c (blockM h (peer k c)) fullShare (K.blk h (peer k c))

/-- A reduce-scatter send cell hands back the chunk that was sent to the step's peer. -/
theorem dmaPay_rsS (c : Dev nD) (h : Fin 2) (k : Fin 7) :
    dmaPay K c (rsS h) k = ownsTc c (chunkM h (peer k c)) fullShare (K.chunk h c (peer k c)) := by
  fin_cases h <;> rfl
/-- A reduce-scatter receive cell hands over the step's slot, reading the peer's chunk for this device. -/
theorem dmaPay_rsR (c : Dev nD) (h : Fin 2) (k : Fin 7) :
    dmaPay K c (rsR h) k = ownsTc c (slotM h k.succ) fullShare (K.chunk h (peer k c) c) := by
  fin_cases h <;> rfl
/-- An all-gather send cell hands back the step's share of the device's own block. -/
theorem dmaPay_agS (c : Dev nD) (h : Fin 2) (k : Fin 7) :
    dmaPay K c (agS h) k = ownsTc c (blockM h c) (agq k) (K.blk h c) := by
  fin_cases h <;> rfl
/-- An all-gather receive cell hands over the peer's block, reading the peer's reduced block. -/
theorem dmaPay_agR (c : Dev nD) (h : Fin 2) (k : Fin 7) :
    dmaPay K c (agR h) k = ownsTc c (blockM h (peer k c)) fullShare (K.blk h (peer k c)) := by
  fin_cases h <;> rfl

/-- Whether a semaphore is one of the exchange's DMA semaphores. -/
abbrev IsX (s : SemLoc sig) : Prop := match s with | .dma q => 6 ≤ q.val | .reg _ => False

/-- One round: a barrier cell has one duty of one unit per peer; a DMA cell the one duty of its copy's credit. -/
def Rd : Rounds.Schedule (GSem nD τ sig) (Fin 7) 𝕄 where
  duties g r := if r = 0 ∧ g.1.2 = .tc then
      (match g.2 with | .reg s => if s = barS then Finset.univ else ∅ | .dma q => if 6 ≤ q.val then {0} else ∅) else ∅
  unitless _ := False
  amount g _ _ := match g.2 with | .reg _ => 1 | .dma q => cr (arrOf q)
  payload g _ d := match g.2 with | .reg _ => barPay g.1.1 d | .dma q => dmaPay K g.1.1 (arrOf q) (stepOf q)
  amount_pos g _ _ _ := by
    cases g.2
    · exact Nat.one_pos
    · exact cr_pos _

omit [FloatOps F] in
instance barPay_storable (c : Dev nD) (k : Fin 7) : BI.Storable (upEmb : UEmb _ 𝕄) (barPay (F := F) c k) := by
  unfold barPay; infer_instance
omit [FloatOps F] in
instance dmaPay_storable (c : Dev nD) (a : Fin 8) (k : Fin 7) : BI.Storable (upEmb : UEmb _ 𝕄) (dmaPay K c a k) := by
  unfold dmaPay; dsimp only; (repeat' split) <;> infer_instance
instance Rd_payload_storable (g : GSem nD τ sig) (r : ℕ) (d : Fin 7) : BI.Storable (upEmb : UEmb _ 𝕄) ((Rd K).payload g r d) := by
  show BI.Storable upEmb (match g.2 with | .reg _ => barPay g.1.1 d | .dma q => dmaPay K g.1.1 (arrOf q) (stepOf q))
  split <;> infer_instance

section Sched
variable (c : Dev nD) (a : Fin 8) (k d : Fin 7)

/-- Round 0 of a barrier cell has all seven duties. -/
theorem duties_bar : (Rd K).duties (barCell c) 0 = Finset.univ := by simp [Rd]
/-- Round 0 of an exchange DMA cell has the one duty 0. -/
theorem duties_dma : (Rd K).duties (dCell a k c) 0 = {0} := by simp [Rd, six_le_dsem]
/-- A round after round 0 has no duty. -/
theorem duties_later (g : GSem nD τ sig) (r : ℕ) (hr : r ≠ 0) : (Rd K).duties g r = ∅ := if_neg fun h => hr h.1
/-- Each duty of a barrier cell is one unit. -/
theorem amount_bar : (Rd K).amount (barCell c) 0 d = 1 := rfl
/-- A duty of a DMA cell of array `a` is the credit of that array's copies. -/
theorem amount_dma : (Rd K).amount (dCell a k c) 0 d = cr a := by
  show cr (arrOf (dsem a k)) = _; rw [arrOf_dsem]
/-- Duty `d` of a barrier cell hands over `barPay` of `d`. -/
theorem pay_bar : (Rd K).payload (barCell c) 0 d = barPay c d := rfl
/-- A duty of a DMA cell hands over `dmaPay` of its array and step. -/
theorem pay_dma : (Rd K).payload (dCell a k c) 0 d = dmaPay K c a k := by
  show dmaPay K c (arrOf (dsem a k)) (stepOf (dsem a k)) = _; rw [arrOf_dsem, stepOf_dsem]
/-- Round 0 of a barrier cell expects seven units. -/
theorem expect_bar : (Rd K).expect (barCell c) 0 = 7 := by
  show ∑ d ∈ _, _ = _
  rw [duties_bar]; rfl
/-- Round 0 of a DMA cell of array `a` expects the credit of one of that array's copies. -/
theorem expect_dma : (Rd K).expect (dCell a k c) 0 = cr a := by
  show ∑ d ∈ _, _ = _
  rw [duties_dma, Finset.sum_singleton, amount_dma]
/-- The barrier's round hands over every peer's landing buffers. -/
theorem rest_bar : bigSep ((Rd K).duties (barCell c) 0 \ ∅) (fun d => (Rd K).payload (barCell c) 0 d)
    = bigSep Finset.univ fun k => barPay c k := by
  rw [Finset.sdiff_empty, duties_bar]; rfl
/-- A DMA cell's round hands over its one payload. -/
theorem rest_dma : bigSep ((Rd K).duties (dCell a k c) 0 \ ∅) (fun d => (Rd K).payload (dCell a k c) 0 d) = dmaPay K c a k := by
  rw [Finset.sdiff_empty, duties_dma, bigSep_singleton, pay_dma]
end Sched

/-! ## What each device owes at launch, and the levels -/

/-- The credits of array `a`'s steps `ks`, owed to the peers' cells. -/
def owe (a : Fin 8) (c : Dev nD) : List (Fin 7) → CellTallies nD τ sig Unit
  | [] => 0
  | k :: ks => owe a c ks + tallyAt (dCell a k (peer k c)) () (cr a)
/-- The barrier units owed to the peers of steps `ks`. -/
def oweBar (c : Dev nD) : List (Fin 7) → CellTallies nD τ sig Unit
  | [] => 0
  | k :: ks => oweBar c ks + tallyAt (barCell (peer k c)) () 1

/-- The order in which the program's copies go out, and the order in which the barrier units do. -/
abbrev down : List (Fin 7) := [6, 5, 4, 3, 2, 1, 0]
abbrev up : List (Fin 7) := [0, 1, 2, 3, 4, 5, 6]

/-- What device `c` owes: after the second half's reduce-scatter sends the second half's all-gather, and so backwards. -/
def Oag (c : Dev nD) : CellTallies nD τ sig Unit := owe 7 c down
def Oag' (c : Dev nD) : CellTallies nD τ sig Unit := Oag c + owe 5 c down
def Ors (c : Dev nD) : CellTallies nD τ sig Unit := Oag' c + owe 3 c down
def Ors' (c : Dev nD) : CellTallies nD τ sig Unit := Ors c + owe 1 c down
def O₀ (c : Dev nD) : CellTallies nD τ sig Unit := Ors' c + oweBar c up

def L (g : GSem nD τ sig) : Finset Unit := if g.1.2 = .tc then {()} else ∅
/-- Barrier cells at 1, reduce-scatter receive cells at 2, all-gather receive cells at 3, every other cell at 0. -/
def lv (g : GSem nD τ sig) (_ : Unit) : ℕ :=
  match g.2 with
  | .reg _ => 1
  | .dma q => if 6 ≤ q.val ∧ (arrOf q).val % 2 = 1 then (if (arrOf q).val < 4 then 2 else 3) else 0

/-- A cell that is not on a TensorCore has no level. -/
theorem L_of_ne (g : GSem nD τ sig) (h : g.1.2 ≠ .tc) : L g = ∅ := if_neg h
/-- A TensorCore cell has the one level name. -/
theorem L_tc (c : Dev nD) (sm : SemLoc sig) : L ((c : Thread nD τ), sm) = {()} := if_pos rfl
/-- A barrier cell is at level 1. -/
theorem lv_bar (c : Dev nD) : lv (barCell c) () = 1 := rfl
/-- A DMA cell is at level 2 or 3 if its array is a receive array of the reduce-scatter or of the all-gather, and at 0 if not. -/
theorem lv_dma (c : Dev nD) (a : Fin 8) (k : Fin 7) :
    lv (dCell a k c) () = if a.val % 2 = 1 then (if a.val < 4 then 2 else 3) else 0 := by
  show (if 6 ≤ (dsem a k).val ∧ (arrOf (dsem a k)).val % 2 = 1 then (if (arrOf (dsem a k)).val < 4 then 2 else 3) else 0) = _
  rw [arrOf_dsem]
  by_cases h : a.val % 2 = 1
  · rw [if_pos ⟨six_le_dsem a k, h⟩, if_pos h]
  · rw [if_neg fun h' => h h'.2, if_neg h]

/-- Everything owed sits on TensorCore cells above level `n`. -/
def Above (n : ℕ) (O : CellTallies nD τ sig Unit) : Prop := ∀ g u, 0 < O g u → () ∈ L g ∧ n < lv g ()

/-- Nothing owed is above every level. -/
theorem Above.zero (n : ℕ) : Above n 0 := fun g u h => absurd h (Nat.lt_irrefl 0)
/-- Two debts above level `n` are together above it. -/
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  exacts [h g u hg, h' g u hg]
/-- A debt to one TensorCore cell whose level exceeds `n` is above `n`. -/
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases h' : g = ((c : Thread nD τ), sm) ∧ u = ()
  · rw [h'.1, L_tc]; exact ⟨Finset.mem_singleton_self _, h⟩
  · rw [if_neg h'] at hg; exact absurd hg (Nat.lt_irrefl 0)
/-- A debt above level `n` is above every level that is at most `n`. -/
theorem Above.mono {n n' : ℕ} {O : CellTallies nD τ sig Unit} (h : Above n O) (hn : n' ≤ n) : Above n' O :=
  fun g u hg => ⟨(h g u hg).1, hn.trans_lt (h g u hg).2⟩

/-- What is owed to the cells of a receive array is above every `n` below that array's level. -/
theorem above_owe (n : ℕ) (a : Fin 8) (c : Dev nD) (ha : a.val % 2 = 1) (h : n < if a.val < 4 then 2 else 3) (ks : List (Fin 7)) :
    Above n (owe a c ks) := by
  induction ks with
  | nil => exact Above.zero n
  | cons k ks ih => exact ih.add (Above.tally _ _ _ (by rw [lv_dma, if_pos ha]; exact h))
/-- The barrier units owed are above level 0. -/
theorem above_oweBar (c : Dev nD) (ks : List (Fin 7)) : Above 0 (oweBar c ks) := by
  induction ks with
  | nil => exact Above.zero 0
  | cons k ks ih => exact ih.add (Above.tally _ _ _ Nat.zero_lt_one)

/-- What is owed for the second half's all-gather is above level 2. -/
theorem above_Oag (c : Dev nD) : Above 2 (Oag c) := above_owe 2 7 c (by decide) (by decide) _
/-- What is owed for the all-gathers of both halves is above level 2. -/
theorem above_Oag' (c : Dev nD) : Above 2 (Oag' c) := (above_Oag c).add (above_owe 2 5 c (by decide) (by decide) _)
/-- What is owed for all copies of both halves is above level 1. -/
theorem above_Ors' (c : Dev nD) : Above 1 (Ors' c) :=
  (((above_Oag' c).mono (by decide)).add (above_owe 1 3 c (by decide) (by decide) _)).add (above_owe 1 1 c (by decide) (by decide) _)
/-- What a device owes at launch is above level 0. -/
theorem above_O₀ (c : Dev nD) : Above 0 (O₀ c) := ((above_Ors' c).mono (by decide)).add (above_oweBar c _)

/-- A wait on a cell at level at most `n` is allowed while everything owed is above `n`. -/
theorem mayWait {n : ℕ} (c : Dev nD) (sm : SemLoc sig) (O : CellTallies nD τ sig Unit)
    (hl : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hl)
    (fun g u hg => (hO g u hg).2)

end Cert.Moe
-- ==== Proof.Flat.lean ====
/-
# The kernel's body as one flat program

The printed body is a chain of parts. Here it is written as one program whose repeated runs of operations — the barrier's
signals, the copies of one reduce-scatter or all-gather, the waits, the all-gather's updates of the output — are folds over
the list of their steps, and whose stored values are named. It is the printed body by unfolding.
-/
module

public import proofs.«01_k».proof.Proof.Wire

@[expose] public section

noncomputable section

namespace Cert.Moe

open Cert.KernelIdeal Cert.KernelIdeal.Gen
open Idealize.ShloMosaic
open Idealize.ShloMosaic.TcCoe
open Idealize.SL Idealize.SL.Sem

variable {F : FTy → Type} [FloatOps F]

/-! ## Whole buffers and word-exact pieces -/

/-- A send buffer is a whole buffer. -/
theorem sbM_whole (h : Fin 2) : (sbM h).IsWhole := by
  fin_cases h
  · exact Memref.isWhole_whole cc0_scratch0
  · exact Memref.isWhole_whole cc0_scratch1
/-- A staging buffer is a whole buffer. -/
theorem stM_whole (h : Fin 2) : (stM h).IsWhole := by
  fin_cases h
  · exact Memref.isWhole_whole cc0_scratch2
  · exact Memref.isWhole_whole cc0_scratch3
/-- A gather buffer is a whole buffer. -/
theorem gaM_whole (h : Fin 2) : (gaM h).IsWhole := by
  fin_cases h
  · exact Memref.isWhole_whole cc0_scratch4
  · exact Memref.isWhole_whole cc0_scratch5

abbrev xM : Memref sig .tc .vmem S1024x256 .bf16 := Memref.whole cc0_stg0_0
abbrev rwM : Memref sig .tc .vmem S256x32 .bf16 := Memref.whole cc0_stg1_0
abbrev ixM : Memref sig .tc .vmem S1024x1 .i32 := Memref.whole cc0_stg2_0
abbrev ewM : Memref sig .tc .vmem S4x256x512 .bf16 := Memref.whole cc0_stg3_0
abbrev swM : Memref sig .tc .vmem S256x512 .bf16 := Memref.whole cc0_stg4_0
abbrev outM : Memref sig .tc .vmem S1024x512 .f32 := Memref.whole cc0_stg5_0

/-! ## The steps' operands as the program names them -/

/-- The device's number as the program reads it, and the step's distance as a word. -/
abbrev me (c : Dev nD) : BitVec 32 := Scalar.remsi (Scalar.divsi (Dev.word c) 1#32) 8#32
abbrev stepW (k : Fin 7) : BitVec 32 := BitVec.ofNat 32 (1 + k.val)

/-- The device a step addresses, as the program computes it. -/
def devW (c : Dev nD) (k : Fin 7) : ℕ := (Scalar.addi 0#32 (Scalar.muli (Scalar.xori (me c) (stepW k)) 1#32)).toNat
/-- The device number a step computes is below the number of devices. -/
theorem devW_lt : ∀ (c : Dev nD) (k : Fin 7), devW c k < nD := by decide
abbrev devN (c : Dev nD) (k : Fin 7) : Dev nD := ⟨devW c k, devW_lt c k⟩
/-- The device a step addresses is the step's peer. -/
theorem devN_eq : ∀ (c : Dev nD) (k : Fin 7), devN c k = peer k c := by decide

abbrev sem1 (a : Fin 8) (k : Fin 7) : DmaSem sig := (((semA a).slice (Rect.unit ![k.val] S1.size (sem_inb k))).squeeze S_ squeezes_S1_S_).sem

/-- A slot of a staging buffer consists of whole words. -/
theorem slot_words (s : Fin 8) : (slotR s).WholeWords (EltTy.packing .bf16) := by revert s; decide

/-- The chunk a step sends, its landing slot, and the block an all-gather sends, as the program names them. -/
abbrev srcM (h : Fin 2) (c : Dev nD) (k : Fin 7) : Memref sig .tc .vmem S48x256 .bf16 :=
  (sbM h).slice (Rect.unit (k0_off1 c (stepW k)) S48x256.size (Gen.k0_off1_inb c k)) fun _ => rfl
abbrev ownM (h : Fin 2) (c : Dev nD) : Memref sig .tc .vmem S128x256 .bf16 :=
  (gaM h).slice (Rect.unit (k0_off5 c) S128x256.size (Gen.k0_off5_inb c)) fun _ => rfl

/-- The chunk a step sends is exact in words. -/
theorem srcM_words (h : Fin 2) (c : Dev nD) (k : Fin 7) : (srcM h c k).view.WordExact :=
  (sbM_whole h).wordExact_slice rfl _ (Gen.k0_off1_wordsbf16 c k)
/-- A landing slot is exact in words. -/
theorem slotM_words (h : Fin 2) (s : Fin 8) : (slotM h s).view.WordExact :=
  ((stM_whole h).wordExact_slice rfl _ (slot_words s)).reshape _ _
/-- The block an all-gather sends is exact in words. -/
theorem ownM_words (h : Fin 2) (c : Dev nD) : (ownM h c).view.WordExact :=
  (gaM_whole h).wordExact_slice rfl _ (Gen.k0_off5_wordsbf16 c)

/-! ## The values the program stores -/

section Values
variable (c : Dev nD) (x : Vec F S1024x256 .bf16) (rw : Vec F S256x32 .bf16) (ix : Vec F S1024x1 .i32)
  (e0 e1 e2 e3 : Vec F S1x256x512 .bf16)

abbrev ixV : IVec S1024x1 32 := k0_pay3 ix
/-- The gate coefficient of each token. -/
abbrev gateV : FVec F S1024x1 .f32 :=
  k0_pay6 (me c) (k0_pay2 x rw) (iota .tc S1024x32 32 [1] iota_S1024x32_d1_w32) (ixV (F := F) ix) (k0_pay4 (me c) x rw ix)
    (Scalar.addi (Scalar.muli (me c) 4#32) 1#32) (k0_pay5 (me c) x rw)
abbrev onV : IVec S1024x1 1 := k0_pay11 (me c) (ixV (F := F) ix)
abbrev rankV : FVec F S128x8 .f32 := k0_pay14 (F := F) (me c) (ixV (F := F) ix)
/-- The selector of each of the eight token blocks: which token goes to which of the 48 rows. -/
abbrev sel0 : FVec F S128x48 .bf16 := k0_pay15 (F := F) (me c) (ixV (F := F) ix)
abbrev sel1 : FVec F S128x48 .bf16 := k0_pay18 (k0_pay16 (F := F) (me c) (ixV (F := F) ix)) (Scalar.ofBits .f32 0x00000000#32) (k0_pay17 (F := F))
abbrev sel2 : FVec F S128x48 .bf16 := k0_pay19 (onV c ix) (k0_pay13 (F := F)) (rankV (F := F) c ix)
abbrev sel3 : FVec F S128x48 .bf16 := k0_pay20 (onV c ix) (k0_pay13 (F := F)) (rankV (F := F) c ix)
abbrev sel4 : FVec F S128x48 .bf16 := k0_pay21 (onV c ix) (k0_pay13 (F := F)) (rankV (F := F) c ix)
abbrev sel5 : FVec F S128x48 .bf16 := k0_pay22 (onV c ix) (k0_pay13 (F := F)) (rankV (F := F) c ix)
abbrev sel6 : FVec F S128x48 .bf16 :=
  k0_pay25 (k0_pay23 (F := F) (onV c ix) (k0_pay13 (F := F)) (rankV (F := F) c ix)) (Scalar.ofBits .f32 0x00000000#32) (k0_pay24 (F := F))
abbrev sel7 : FVec F S128x48 .bf16 := k0_pay26 (onV c ix) (k0_pay13 (F := F)) (rankV (F := F) c ix)
abbrev xV : FVec F S1024x256 .bf16 := k0_pay1 x
abbrev ixF : FVec F S1024x1 .f32 := k0_pay28 (F := F) (ixV (F := F) ix)
abbrev gateB : FVec F S1024x1 .bf16 := k0_pay27 (gateV c x rw ix)
abbrev row0 : FVec F S48x256 .bf16 := k0_pay29 (xV x) (gateV c x rw ix) (sel0 c ix)
abbrev row1 : FVec F S48x256 .bf16 := k0_pay31 (xV x) (gateV c x rw ix) (sel1 c ix)
abbrev row2 : FVec F S48x256 .bf16 := k0_pay33 (xV x) (gateV c x rw ix) (sel2 c ix)
abbrev row3 : FVec F S48x256 .bf16 := k0_pay35 (xV x) (gateV c x rw ix) (sel3 c ix)
abbrev wsel4 : FVec F S128x48 .bf16 := k0_pay37 (gateV c x rw ix) (sel4 c ix)
abbrev id0 : FVec F S48x1 .f32 := k0_pay30 (F := F) (ixV (F := F) ix) (sel0 c ix)
abbrev id1 : FVec F S48x1 .f32 := k0_pay32 (F := F) (ixV (F := F) ix) (sel1 c ix)
abbrev id2 : FVec F S48x1 .f32 := k0_pay34 (F := F) (ixV (F := F) ix) (sel2 c ix)
abbrev id3 : FVec F S48x1 .f32 := k0_pay36 (F := F) (ixV (F := F) ix) (sel3 c ix)
/-- The compacted, gated tokens of all eight blocks, and their expert indices. -/
abbrev rowsV : FVec F S384x256 .bf16 :=
  k0_pay38 (xV x) (sel5 c ix) (sel6 c ix) (sel7 c ix) (gateB c x rw ix) (row0 c x rw ix) (row1 c x rw ix) (row2 c x rw ix) (row3 c x rw ix) (wsel4 c x rw ix)
abbrev idsV : FVec F S384x1 .f32 :=
  k0_pay39 (sel4 c ix) (sel5 c ix) (sel6 c ix) (sel7 c ix) (ixF ix) (id0 c ix) (id1 c ix) (id2 c ix) (id3 c ix)
/-- Those of the device's first expert, and the selector of its second. -/
abbrev rowsE0 : FVec F S384x256 .bf16 :=
  k0_pay40 (me c) (xV x) (sel4 c ix) (sel5 c ix) (sel6 c ix) (sel7 c ix) (gateB c x rw ix) (ixF ix) (row0 c x rw ix) (id0 c ix) (row1 c x rw ix) (id1 c ix)
    (row2 c x rw ix) (id2 c ix) (row3 c x rw ix) (id3 c ix) (wsel4 c x rw ix)
abbrev selE1 : FVec F S384x1 .f32 :=
  k0_pay41 (me c) (sel4 c ix) (sel5 c ix) (sel6 c ix) (sel7 c ix) (ixF ix) (id0 c ix) (id1 c ix) (id2 c ix) (id3 c ix)
/-- What the two send buffers are filled with: the partial results, one column half each. -/
def sendA : FVec F S384x256 .bf16 :=
  k0_pay45 (me c) (k0_pay7 e0) (k0_pay8 e1) (k0_pay9 e2) (k0_pay10 e3) (rowsV c x rw ix) (idsV c ix) (rowsE0 c x rw ix) (selE1 c ix)
def sendB : FVec F S384x256 .bf16 :=
  k0_pay46 (k0_pay7 e0) (k0_pay8 e1) (k0_pay9 e2) (k0_pay10 e3) (rowsE0 c x rw ix)
    (k0_pay42 (rowsV c x rw ix) (selE1 c ix)) (k0_pay43 (me c) (rowsV c x rw ix) (idsV c ix)) (k0_pay44 (me c) (rowsV c x rw ix) (idsV c ix))

/-- The selector that puts the staged rows back at the tokens of the device's own block. -/
def backV (ixb : Vec F S128x1 .i32) : FVec F S128x384 .bf16 :=
  k0_pay55 (k0_pay50 (k0_pay12 (F := F)) (k0_pay47 ixb) (k0_pay48 (me c))) (k0_pay51 (k0_pay47 ixb) (k0_pay48 (me c)))
    (Scalar.select (Scalar.cmpi .eq 48#32 0#32) 1#32 48#32) k0_pay52 k0_pay53 k0_pay54
end Values

/-! ## The program -/

abbrev P (F : FTy → Type) : Type 1 := Prog (TpuEff nD τ sig (Elt F) Λ₀ .tc) PUnit

/-- Signal the peers of steps `ks`. -/
def sigs (c : Dev nD) (ks : List (Fin 7)) (p : P F) : P F :=
  ks.foldr (fun k p => .op (.semSignal (devN c k, .tc) barS (1#32 : BitVec 32).toInt) fun _ => p) p

/-- Start the reduce-scatter copies of steps `ks`. -/
def rsSends (h : Fin 2) (c : Dev nD) (ks : List (Fin 7)) (p : P F) : P F :=
  ks.foldr (fun k p => .op (.enqueueDma (srcM h c k) (.remote (Dev.tc (devN c k)) (slotM h k.succ) (.dma (sem1 (rsS h) k))) (.dma (sem1 (rsR h) k))
    (srcM_words h c k) (slotM_words h k.succ) ⟨⟨rfl, Or.inl rfl⟩, trivial⟩) fun _ => p) p

/-- Start the all-gather copies of steps `ks`. -/
def agSends (h : Fin 2) (c : Dev nD) (ks : List (Fin 7)) (p : P F) : P F :=
  ks.foldr (fun k p => .op (.enqueueDma (ownM h c) (.remote (Dev.tc (devN c k)) (ownM h c) (.dma (sem1 (agS h) k))) (.dma (sem1 (agR h) k))
    (ownM_words h c) (ownM_words h c) ⟨⟨rfl, Or.inl rfl⟩, trivial⟩) fun _ => p) p

/-- Wait for the peers' chunks of steps `ks`. -/
def rsRecvs (h : Fin 2) (c : Dev nD) (ks : List (Fin 7)) (p : P F) : P F :=
  ks.foldr (fun k p => .op (.waitDma2 (sem1 (rsR h) k) (srcM h c k) (slotM h k.succ) (srcM_words h c k) (slotM_words h k.succ)) fun _ => p) p

/-- Wait for the own chunks' copies to have been read, step by step in both halves. -/
def rsDones (c : Dev nD) (ks : List (Fin 7)) (p : P F) : P F :=
  ks.foldr (fun k p =>
    .op (.waitDma2 (sem1 (rsS 0) k) (slotM 0 k.succ) (srcM 0 c k) (slotM_words 0 k.succ) (srcM_words 0 c k)) fun _ =>
    .op (.waitDma2 (sem1 (rsS 1) k) (slotM 1 k.succ) (srcM 1 c k) (slotM_words 1 k.succ) (srcM_words 1 c k)) fun _ => p) p

/-- The same for the own blocks. -/
def agDones (c : Dev nD) (ks : List (Fin 7)) (p : P F) : P F :=
  ks.foldr (fun k p =>
    .op (.waitDma2 (sem1 (agS 0) k) (ownM 0 c) (ownM 0 c) (ownM_words 0 c) (ownM_words 0 c)) fun _ =>
    .op (.waitDma2 (sem1 (agS 1) k) (ownM 1 c) (ownM 1 c) (ownM_words 1 c) (ownM_words 1 c)) fun _ => p) p

/-- The rows and columns of the output that step `k` of half `h` updates. -/
def updOff : Fin 2 → Dev nD → Fin 7 → Fin 2 → ℕ := ![fun c k => k0_off8 c (stepW k), fun c k => k0_off10 c (stepW k)]
/-- The rows and columns that a step updates lie within the output. -/
theorem updOff_inb (h : Fin 2) (c : Dev nD) (k : Fin 7) : ∀ a, updOff h c k a + S128x256.size a ≤ S1024x512.size a := by
  revert h c k; decide +kernel
abbrev updR (h : Fin 2) (c : Dev nD) (k : Fin 7) : Rect S1024x512 := Rect.unit (updOff h c k) S128x256.size (updOff_inb h c k)
abbrev gotR (c : Dev nD) (k : Fin 7) : Rect S1024x256 := Rect.unit (k0_off9 c (stepW k)) S128x256.size (Gen.k0_off9_inb c k)

/-- Wait for the peers' blocks of steps `ks` and add each into the output. -/
def agSteps (h : Fin 2) (c : Dev nD) (ks : List (Fin 7)) (p : P F) : P F :=
  ks.foldr (fun k p =>
    .op (.waitDma2 (sem1 (agR h) k) (ownM h c) (ownM h c) (ownM_words h c) (ownM_words h c)) fun _ =>
    .op (.load outM (updR h c k).toLoadRect (View.loadsAt_vmem h_S128x256)) fun o =>
    .op (.load (gaM h) (gotR c k).toLoadRect (View.loadsAt_vmem h_S128x256)) fun g =>
    .op (.load outM (updR h c k).toLoadRect (View.loadsAt_vmem h_S128x256)) fun _ =>
    .op (.store outM (updR h c k) (k0_pay68 o g) Finset.univ (View.stores_vmem_bits_univ h_S128x256 rfl) (.inl rfl)) fun _ => p) p

/-- The order in which landed chunks and blocks are taken. -/
abbrev take : List (Fin 7) := [0, 2, 1, 3, 4, 5, 6]

abbrev fullSb : Rect S384x256 := Rect.unit ![0, 0] S384x256.size Gen.inb_S384x256_S384x256_0_0
abbrev fullSt : Rect S8x48x256 := Rect.unit ![0, 0, 0] S8x48x256.size Gen.inb_S8x48x256_S8x48x256_0_0_0
abbrev fullOut : Rect S1024x512 := Rect.unit ![0, 0] S1024x512.size Gen.inb_S1024x512_S1024x512_0_0
abbrev slot0R : Rect S8x48x256 := Rect.unit ![0, 0, 0] S1x48x256.size Gen.inb_S8x48x256_S1x48x256_0_0_0
abbrev ownChunkR (c : Dev nD) : Rect S384x256 := Rect.unit (k0_off3 c) S48x256.size (Gen.k0_off3_inb c)
abbrev ownBlockR (c : Dev nD) : Rect S1024x256 := Rect.unit (k0_off4 c) S128x256.size (Gen.k0_off4_inb c)
abbrev ownIxR (c : Dev nD) : Rect S1024x1 := Rect.unit (k0_off2 c) S128x1.size (Gen.k0_off2_inb c)
abbrev expR (i : Fin 4) : Rect S4x256x512 := Rect.unit ![i.val, 0, 0] S1x256x512.size (by revert i; decide)
/-- The rows and columns of the output that the device's own block of half `h` updates. -/
def ownOff : Fin 2 → Dev nD → Fin 2 → ℕ := ![fun c => k0_off6 c, fun c => k0_off7 c]
/-- The rows and columns that the device's own block updates lie within the output. -/
theorem ownOff_inb (h : Fin 2) (c : Dev nD) : ∀ a, ownOff h c a + S128x256.size a ≤ S1024x512.size a := by
  revert h c; decide +kernel
abbrev ownOutR (h : Fin 2) (c : Dev nD) : Rect S1024x512 := Rect.unit (ownOff h c) S128x256.size (ownOff_inb h c)

/-- A store over a whole send buffer can write all its entries. -/
theorem fullSb_stores (h : Fin 2) : ((sbM h).access fullSb : View sig .tc _ _ _).Stores Finset.univ :=
  View.stores_vmem h_S384x256 ((sbM_whole h).storeExact_slice rfl _ Gen.packedbf16_S384x256_S384x256_0_0) fun _ => rfl
/-- A store into slot 0 of a staging buffer can write all its entries. -/
theorem slot0_stores (h : Fin 2) : ((stM h).access slot0R : View sig .tc _ _ _).Stores Finset.univ :=
  View.stores_vmem h_S1x48x256 ((stM_whole h).storeExact_slice rfl _ Gen.packedbf16_S8x48x256_S1x48x256_0_0_0) fun _ => rfl
/-- A store into the device's own block of a gather buffer can write all its entries. -/
theorem own_stores (h : Fin 2) (c : Dev nD) : ((gaM h).access (ownBlockR c) : View sig .tc _ _ _).Stores Finset.univ :=
  View.stores_vmem h_S128x256 ((gaM_whole h).storeExact_slice rfl _ (Gen.k0_off4_packedbf16 c)) fun _ => rfl

/-- Fill a send buffer with `w`. -/
def fill (h : Fin 2) (w : FVec F S384x256 .bf16) (p : P F) : P F :=
  .op (.load (sbM h) fullSb.toLoadRect (View.loadsAt_vmem h_S384x256)) fun _ =>
  .op (.store (sbM h) fullSb w Finset.univ (fullSb_stores h) (.inl rfl)) fun _ => p

/-- Stage the own chunk, take the peers' chunks, reduce them with the selector `b`, store the reduced block in the gather buffer. -/
def reduce (h : Fin 2) (c : Dev nD) (b : FVec F S128x384 .bf16) (k : Vec F S8x48x256 .bf16 → P F) : P F :=
  .op (.load (sbM h) (ownChunkR c).toLoadRect (View.loadsAt_vmem h_S48x256)) fun v =>
  .op (.load (stM h) slot0R.toLoadRect (View.loadsAt_vmem h_S1x48x256)) fun _ =>
  .op (.store (stM h) slot0R (k0_pay56 v) Finset.univ (slot0_stores h) (.inl rfl)) fun _ =>
  rsRecvs h c take <|
  .op (.load (stM h) fullSt.toLoadRect (View.loadsAt_vmem h_S8x48x256)) fun s =>
  .op (.load (gaM h) (ownBlockR c).toLoadRect (View.loadsAt_vmem h_S128x256)) fun _ =>
  .op (.store (gaM h) (ownBlockR c) (k0_pay58 b s) Finset.univ (own_stores h c) (.inl rfl)) fun _ => k s

/-- Add the own reduced block into the output: `w` of the output's old rows is stored. -/
def ownAdd (h : Fin 2) (c : Dev nD) (w : Vec F S128x256 .f32 → FVec F S128x256 .f32) (p : P F) : P F :=
  .op (.load outM (ownOutR h c).toLoadRect (View.loadsAt_vmem h_S128x256)) fun o =>
  .op (.load outM (ownOutR h c).toLoadRect (View.loadsAt_vmem h_S128x256)) fun _ =>
  .op (.store outM (ownOutR h c) (w o) Finset.univ (View.stores_vmem_bits_univ h_S128x256 rfl) (.inl rfl)) fun _ => p

/-- The output's first contents: the shared expert of every token. -/
def sharedAll (x : Vec F S1024x256 .bf16) (p : P F) : P F :=
  .op (.load swM (Rect.unit ![0, 0] S256x512.size Gen.inb_S256x512_S256x512_0_0).toLoadRect (View.loadsAt_vmem h_S256x512)) fun sw =>
  .op (.load outM fullOut.toLoadRect (View.loadsAt_vmem h_S1024x512)) fun _ =>
  .op (.store outM fullOut (k0_pay59 (xV x) sw) Finset.univ (View.stores_vmem_bits_univ h_S1024x512 rfl) (.inl rfl)) fun _ => p

/-- The whole body from the device's number on. -/
def prog (c : Dev nD) : P F :=
  sigs c up <|
  .op (.load xM (Rect.unit ![0, 0] S1024x256.size Gen.inb_S1024x256_S1024x256_0_0).toLoadRect (View.loadsAt_vmem h_S1024x256)) fun x =>
  .op (.load rwM (Rect.unit ![0, 0] S256x32.size Gen.inb_S256x32_S256x32_0_0).toLoadRect (View.loadsAt_vmem h_S256x32)) fun rw =>
  .op (.load ixM (Rect.unit ![0, 0] S1024x1.size Gen.inb_S1024x1_S1024x1_0_0).toLoadRect (View.loadsAt_vmem h_S1024x1)) fun ix =>
  .op (.load ewM (expR 0).toLoadRect (View.loadsAt_vmem h_S1x256x512)) fun e0 =>
  .op (.load ewM (expR 1).toLoadRect (View.loadsAt_vmem h_S1x256x512)) fun e1 =>
  .op (.load ewM (expR 2).toLoadRect (View.loadsAt_vmem h_S1x256x512)) fun e2 =>
  .op (.load ewM (expR 3).toLoadRect (View.loadsAt_vmem h_S1x256x512)) fun e3 =>
  .op (.semWait barS (7#32 : BitVec 32).toInt) fun _ =>
  fill 0 (sendA c x rw ix e0 e1 e2 e3) <|
  rsSends 0 c down <|
  fill 1 (sendB c x rw ix e0 e1 e2 e3) <|
  rsSends 1 c down <|
  .op (.load ixM (ownIxR c).toLoadRect (View.loadsAt_vmem h_S128x1)) fun ixb =>
  reduce 0 c (backV c ixb) fun sa =>
  agSends 0 c down <|
  sharedAll x <|
  reduce 1 c (backV c ixb) fun sb =>
  agSends 1 c down <|
  ownAdd 0 c (k0_pay63 (k0_pay57 (backV c ixb) sa)) <|
  ownAdd 1 c (k0_pay64 (k0_pay61 (backV c ixb) sb)) <|
  agSteps 0 c take <|
  agSteps 1 c take <|
  rsDones c up <|
  agDones c up <|
  .ret PUnit.unit

set_option maxRecDepth 65536 in
/-- The printed body is `prog`. -/
theorem body_eq : cc0_body (F := F) xM (Memref.isWhole_whole _) rwM (Memref.isWhole_whole _) ixM (Memref.isWhole_whole _) ewM (Memref.isWhole_whole _)
    swM (Memref.isWhole_whole _) outM (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9
    cc0_scratch10 cc0_scratch11 cc0_scratch12 cc0_scratch13 = .op .deviceId fun c => prog c := rfl

end Cert.Moe
-- ==== Proof.Steps.lean ====
/-
# The exchange's steps

One rule per kind of step of the flat program — signal, send, wait — and from each the rule of its fold over a list of steps.
Each is stated for a symbolic device, step and column half.
-/
module

public import proofs.«01_k».proof.Proof.Flat

@[expose] public section

noncomputable section

namespace Cert.Moe

open Cert.KernelIdeal Cert.KernelIdeal.Gen
open Idealize.ShloMosaic
open Idealize.ShloMosaic.TcCoe
open Idealize.ShloMosaic.Transfers (dealOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A listed separating product's first member and the rest. -/
theorem lsep_cons {I : Type} (i : I) (l : List I) (Φ : I → sProp 𝕄) : bigSepL (i :: l) Φ = iprop(Φ i ∗ bigSepL l Φ) := bigSepL_cons i l Φ

/-! ## Cells and records -/

/-- The exchange's cells of one device: the barrier, or semaphore `k` of array `a`. -/
abbrev CI : Type := Option (Fin 8 × Fin 7)
def cellAt : Dev nD × CI → GSem nD τ sig
  | (c, none) => barCell c
  | (c, some (a, k)) => dCell a k c

variable (K : Cont F) (Kn : Dev nD × CI → ℕ)

/-- What every device may know: every cell's invariant, that round 0 of every cell is reached, and the levels. -/
def recs : sProp 𝕄 :=
  iprop((bigSep Finset.univ fun i => cellInv ER (Rd K) (Kn i) (cellAt i))
    ∗ (bigSep Finset.univ fun i => reached ER (cellAt i) 0) ∗ levAts L lv)

instance recs_persistent : BI.Persistent (recs K Kn) := by unfold recs; infer_instance

/-- The records give the invariant of each cell. -/
theorem recs_inv (i : Dev nD × CI) : recs K Kn ⊢ cellInv ER (Rd K) (Kn i) (cellAt i) := by
  have h : (bigSep Finset.univ fun i => (cellInv ER (Rd K) (Kn i) (cellAt i) : sProp 𝕄)) ⊢ cellInv ER (Rd K) (Kn i) (cellAt i) :=
    bigSep_elim (Finset.mem_univ i)
  unfold recs
  iintro ⟨H, -, -⟩
  iapply h
  iexact H
/-- The records say of each cell that its round 0 is reached. -/
theorem recs_reached (i : Dev nD × CI) : recs K Kn ⊢ reached ER (cellAt i) 0 := by
  have h : (bigSep Finset.univ fun i => (reached ER (cellAt i) 0 : sProp 𝕄)) ⊢ reached ER (cellAt i) 0 := bigSep_elim (Finset.mem_univ i)
  unfold recs
  iintro ⟨-, H, -⟩
  iapply h
  iexact H
/-- The records give the levels. -/
theorem recs_levs : recs K Kn ⊢ (levAts L lv : sProp 𝕄) := by
  unfold recs
  iintro ⟨-, -, H⟩
  iexact H

/-- What a device still owes, whatever it has waited for. -/
def due (c : Dev nD) (O : CellTallies nD τ sig Unit) : sProp 𝕄 := iprop(∃ W, owes (c : Thread nD τ) O W)

abbrev Wp (c : Dev nD) (p : P F) (Q : PUnit → sProp 𝕄) : sProp 𝕄 :=
  wp frame (wpE (defs₀ (F := F)) 𝒱₀ (c : Thread nD τ) none) Set.univ p Q

/-! ## The program's operands are the protocol's -/

/-- Slices of one buffer at equal offsets are equal. -/
theorem slice_off {sp : CoreSpace} {sh : Shape} {e : EltTy} (M : Memref sig .tc sp sh e) {off off' size : Fin sh.rank → ℕ} (h : off = off')
    (p : ∀ a, off a + size a ≤ sh.size a) (p' : ∀ a, off' a + size a ≤ sh.size a) :
    M.slice (Rect.unit off size p) (fun _ => rfl) = M.slice (Rect.unit off' size p') fun _ => rfl := by
  subst h; rfl

/-- The offset of the chunk a step sends is 48 times the peer's number. -/
theorem off1_eq : ∀ (c : Dev nD) (k : Fin 7), k0_off1 c (stepW k) = ![48 * (peer k c).val, 0] := by decide +kernel
/-- The offset of the block a step takes from the gather buffer is 128 times the peer's number. -/
theorem off9_eq : ∀ (c : Dev nD) (k : Fin 7), k0_off9 c (stepW k) = ![128 * (peer k c).val, 0] := by decide +kernel

/-- The chunk a step sends, as the program names it, is the chunk for the step's peer. -/
theorem srcM_eq (h : Fin 2) (c : Dev nD) (k : Fin 7) : srcM h c k = chunkM h (peer k c) := slice_off _ (off1_eq c k) _ _
/-- The block an all-gather sends, as the program names it, is the device's own block. -/
theorem ownM_eq (h : Fin 2) (c : Dev nD) : ownM h c = blockM h c := slice_off _ (Gen.k0_off5_eq c) _ _

/-- A copy into any slot has the credit `NR`. -/
theorem credit_slot (h : Fin 2) (s : Fin 8) : (slotM h s).view.dmaCredit = NR := by fin_cases h <;> rfl
/-- A copy into any chunk has the credit `NR`. -/
theorem credit_chunk (h : Fin 2) (d : Fin 8) : (chunkM h d).view.dmaCredit = NR := by fin_cases h <;> rfl
/-- A copy into any block has the credit `NA`. -/
theorem credit_block (h : Fin 2) (d : Fin 8) : (blockM h d).view.dmaCredit = NA := by fin_cases h <;> rfl

/-- The credit of a reduce-scatter send array is `NR`. -/
theorem cr_rsS (h : Fin 2) : cr (rsS h) = NR := by fin_cases h <;> rfl
/-- The credit of a reduce-scatter receive array is `NR`. -/
theorem cr_rsR (h : Fin 2) : cr (rsR h) = NR := by fin_cases h <;> rfl
/-- The credit of an all-gather send array is `NA`. -/
theorem cr_agS (h : Fin 2) : cr (agS h) = NA := by fin_cases h <;> rfl
/-- The credit of an all-gather receive array is `NA`. -/
theorem cr_agR (h : Fin 2) : cr (agR h) = NA := by fin_cases h <;> rfl

/-! ## Signals -/

variable (c : Dev nD) {Q : PUnit → sProp (MT nD τ sig Unit (Elt F) ℕ UU ℕ)} {p : P F}

/-- One barrier signal: the duty's token and the landing buffers go in. -/
theorem wp_sig (k : Fin 7) (n : Dev nD) (hn : n = peer k c) (O : CellTallies nD τ sig Unit) :
    iprop(recs K Kn ∗ due c (O + tallyAt (barCell (peer k c)) () 1) ∗ dutyTok ER (barCell (peer k c)) 0 k ∗ barPay (peer k c) k)
      ⊢ iprop((due c O -∗ Wp c p Q) -∗ Wp c (.op (.semSignal (n, .tc) barS (1#32 : BitVec 32).toInt) fun _ => p) Q) := by
  subst hn
  unfold due
  iintro ⟨#HR, ⟨%W, HO⟩, Ht, Hp⟩ Hk
  iapply (Rounds.wp_signal 𝒱₀ ER (Rd K) (c : Thread nD τ) none (dst := (peer k c : Thread nD τ)) (κ := Kn (peer k c, none))
      (d := k) (by rw [duties_bar]; exact Finset.mem_univ _) ((amount_bar K (peer k c) k).trans (by decide)) () O rfl)
    $$ [HO Ht Hp]
  · isplitr; · iapply (recs_inv K Kn (peer k c, none)); iexact HR
    isplitl [HO]; · iexact HO
    isplitl [Ht]; · iexact Ht
    isplitl [Hp]; · rw [pay_bar]; iexact Hp
    iapply (recs_reached K Kn (peer k c, none)); iexact HR
  iintro HO
  iapply Hk
  iexists W
  iexact HO

/-- The barrier signals of the steps `ks`. -/
theorem wp_sigs (O : CellTallies nD τ sig Unit) (ks : List (Fin 7)) :
    iprop(recs K Kn ∗ due c (O + oweBar c ks) ∗ bigSepL ks fun k => iprop(dutyTok ER (barCell (peer k c)) 0 k ∗ barPay (peer k c) k))
      ⊢ iprop((due c O -∗ Wp c p Q) -∗ Wp c (sigs c ks p) Q) := by
  induction ks with
  | nil =>
    rw [oweBar, add_zero]
    iintro ⟨-, HO, -⟩ Hk
    iapply Hk
    iexact HO
  | cons k ks ih =>
    rw [lsep_cons, oweBar, ← add_assoc]
    iintro ⟨#HR, HO, ⟨Ht, Hp⟩, Hs⟩ Hk
    iapply (wp_sig K Kn c (p := sigs c ks p) k _ (devN_eq c k) (O + oweBar c ks)) $$ [HO Ht Hp]
    · isplitr; · iexact HR
      isplitl [HO]; · iexact HO
      isplitl [Ht]; · iexact Ht
      iexact Hp
    iintro HO
    iapply ih $$ [HO Hs]
    · isplitr; · iexact HR
      isplitl [HO]; · iexact HO
      iexact Hs
    iexact Hk

/-! ## Sends -/

/-- A copy of `src`, held reading `X`, to the peer's `dst`: the two duties' tokens and both ends go in; the send cell's credit comes out. -/
theorem wp_copy_to {s : Shape} (k : Fin 7) (n : Dev nD) (hn : n = peer k c) (a b : Fin 8) (src dst src' dst' : Memref sig .tc .vmem s .bf16)
    (hs : src' = src) (hd : dst' = dst) {hsc : (dst' : Memref sig (Dev.tc n : Thread nD τ).2.kind .vmem s .bf16).view.ref.isScScratch = false}
    {h1 : src'.view.WordExact} {h2 : dst'.view.WordExact} (sS sR : DmaSem sig) (hS : sS = dsem a k) (hR : sR = dsem b k)
    {h3 : DmaTarget.Typed .vmem (.dma sR) (.remote (Dev.tc n : Thread nD τ) dst' (.dma sS) hsc)}
    (q : PosShare TreeShare) (X : s.Idx → Elt F .bf16) (N : ℕ) (hN : dst.view.dmaCredit = N) (ha : cr a = N) (hb : cr b = N)
    (hpa : dmaPay K c a k = ownsTc c src q X) (hpb : dmaPay K (peer k c) b k = ownsTc (peer k c) dst fullShare X)
    (O : CellTallies nD τ sig Unit) :
    iprop(recs K Kn ∗ due c (O + tallyAt (dCell b k (peer k c)) () (cr b)) ∗ ownsTc c src q X ∗ (∃ Y, ownsTc (peer k c) dst fullShare Y)
        ∗ dutyTok ER (dCell a k c) 0 0 ∗ dutyTok ER (dCell b k (peer k c)) 0 0)
      ⊢ iprop((due c O -∗ cred (tallyAt (dCell a k c) () (cr a)) -∗ Wp c p Q)
          -∗ Wp c (.op (.enqueueDma src' (.remote (Dev.tc n) dst' (.dma sS) hsc) (.dma sR) h1 h2 h3) fun _ => p) Q) := by
  subst hn hs hd hS hR hN
  rw [ha, hb]
  unfold due
  iintro ⟨#HR, ⟨%W, HO⟩, Hs, ⟨%Y, Hd⟩, Ht, Ht'⟩ Hk
  ihave Hs := (Entails.of_eq (owns_eq (c : Thread nD τ) src' q X)) $$ Hs
  ihave Hd := (Entails.of_eq (owns_eq (peer k c : Thread nD τ) dst' fullShare Y)) $$ Hd
  iapply (Rounds.wp_send_pointsTo 𝒱₀ ER (Rd K) (c : Thread nD τ) none (κ₁ := Kn (c, some (a, k))) (κ₂ := Kn (peer k c, some (b, k)))
    (r₁ := 0) (r₂ := 0) (d₁ := 0) (d₂ := 0) (fd := bufOf (peer k c : Thread nD τ) dst' Y)
    (by rw [duties_dma]; exact Finset.mem_singleton_self _) (by rw [duties_dma]; exact Finset.mem_singleton_self _)
    () () dst'.view.dmaCredit rfl ((amount_dma K c a k 0).trans ha) ((amount_dma K (peer k c) b k 0).trans hb) O rfl (W := W)
    (by rw [pay_dma, hpa, ← owns_eq])
    (by
      rw [pay_dma, hpb, show src'.view.read (Elt F) (bufOf (c : Thread nD τ) src' X) = X from View.read_write_univ _ _]
      have h := owns_intro (Val := Elt F) (Ix := Unit) (Name := ℕ) (U := UU) (Lvl := ℕ) (peer k c : Thread nD τ) dst' fullShare
        (dst'.view.write (Elt F) (bufOf (peer k c : Thread nD τ) dst' Y) X Finset.univ)
      rw [View.read_write_univ] at h
      exact h))
    $$ [HO Hs Hd Ht Ht']
  · isplitr; · iapply (recs_inv K Kn (c, some (a, k))); iexact HR
    isplitr; · iapply (recs_inv K Kn (peer k c, some (b, k))); iexact HR
    isplitl [Hs]; · iexact Hs
    isplitl [Hd]; · iexact Hd
    isplitl [HO]; · iexact HO
    isplitl [Ht]; · iexact Ht
    isplitr; · iapply (recs_reached K Kn (c, some (a, k))); iexact HR
    isplitl [Ht']; · iexact Ht'
    iapply (recs_reached K Kn (peer k c, some (b, k))); iexact HR
  iintro ⟨Hc, HO⟩
  iapply Hk $$ [HO]
  · iexists W
    iexact HO
  iexact Hc

/-- What the reduce-scatter copy of step `k` takes: the chunk, its landing slot, the two tokens. -/
def rsIn (h : Fin 2) (k : Fin 7) : sProp 𝕄 :=
  iprop(ownsTc c (chunkM h (peer k c)) fullShare (K.chunk h c (peer k c)) ∗ (∃ Y, ownsTc (peer k c) (slotM h k.succ) fullShare Y)
    ∗ dutyTok ER (dCell (rsS h) k c) 0 0 ∗ dutyTok ER (dCell (rsR h) k (peer k c)) 0 0)
/-- What the all-gather copy of step `k` takes: a share of the block, its landing block, the two tokens. -/
def agIn (h : Fin 2) (k : Fin 7) : sProp 𝕄 :=
  iprop(ownsTc c (blockM h c) (agq k) (K.blk h c) ∗ (∃ Y, ownsTc (peer k c) (blockM h c) fullShare Y)
    ∗ dutyTok ER (dCell (agS h) k c) 0 0 ∗ dutyTok ER (dCell (agR h) k (peer k c)) 0 0)

/-- The reduce-scatter copies of the steps `ks`: what each takes and the debt for them go in, the send cells' credits come out. -/
theorem wp_rsSends (h : Fin 2) (O : CellTallies nD τ sig Unit) (ks : List (Fin 7)) :
    iprop(recs K Kn ∗ due c (O + owe (rsR h) c ks) ∗ bigSepL ks (rsIn K c h))
      ⊢ iprop((due c O -∗ (bigSepL ks fun k => cred (tallyAt (dCell (rsS h) k c) () (cr (rsS h)))) -∗ Wp c p Q) -∗ Wp c (rsSends h c ks p) Q) := by
  induction ks with
  | nil =>
    rw [owe, add_zero]
    iintro ⟨-, HO, -⟩ Hk
    iapply Hk $$ HO
    rw [bigSepL_nil]
    iempintro
  | cons k ks ih =>
    rw [lsep_cons, lsep_cons, owe, ← add_assoc]
    unfold rsIn
    iintro ⟨#HR, HO, Hin, Hs⟩ Hk
    iapply (wp_copy_to K Kn c (p := rsSends h c ks p) k _ (devN_eq c k) (rsS h) (rsR h) (chunkM h (peer k c)) (slotM h k.succ) _ _ (srcM_eq h c k) rfl
      _ _ (semA_eq (rsS h) k) (semA_eq (rsR h) k) fullShare (K.chunk h c (peer k c)) NR (credit_slot h _) (cr_rsS h) (cr_rsR h)
      (dmaPay_rsS K c h k) (by rw [dmaPay_rsR, peer_inv]) (O + owe (rsR h) c ks)) $$ [HO Hin]
    · isplitr; · iexact HR
      isplitl [HO]; · iexact HO
      iexact Hin
    iintro HO Hc
    iapply ih $$ [HO Hs]
    · isplitr; · iexact HR
      isplitl [HO]; · iexact HO
      iexact Hs
    iintro HO Hcs
    iapply Hk $$ HO
    isplitl [Hc]
    · iexact Hc
    · iexact Hcs

/-- The all-gather copies of the steps `ks`: what each takes and the debt for them go in, the send cells' credits come out. -/
theorem wp_agSends (h : Fin 2) (O : CellTallies nD τ sig Unit) (ks : List (Fin 7)) :
    iprop(recs K Kn ∗ due c (O + owe (agR h) c ks) ∗ bigSepL ks (agIn K c h))
      ⊢ iprop((due c O -∗ (bigSepL ks fun k => cred (tallyAt (dCell (agS h) k c) () (cr (agS h)))) -∗ Wp c p Q) -∗ Wp c (agSends h c ks p) Q) := by
  induction ks with
  | nil =>
    rw [owe, add_zero]
    iintro ⟨-, HO, -⟩ Hk
    iapply Hk $$ HO
    rw [bigSepL_nil]
    iempintro
  | cons k ks ih =>
    rw [lsep_cons, lsep_cons, owe, ← add_assoc]
    unfold agIn
    iintro ⟨#HR, HO, Hin, Hs⟩ Hk
    iapply (wp_copy_to K Kn c (p := agSends h c ks p) k _ (devN_eq c k) (agS h) (agR h) (blockM h c) (blockM h c) _ _ (ownM_eq h c) (ownM_eq h c)
      _ _ (semA_eq (agS h) k) (semA_eq (agR h) k) (agq k) (K.blk h c) NA (credit_block h _) (cr_agS h) (cr_agR h)
      (dmaPay_agS K c h k) (by rw [dmaPay_agR, peer_inv]) (O + owe (agR h) c ks)) $$ [HO Hin]
    · isplitr; · iexact HR
      isplitl [HO]; · iexact HO
      iexact Hin
    iintro HO Hc
    iapply ih $$ [HO Hs]
    · isplitr; · iexact HR
      isplitl [HO]; · iexact HO
      iexact Hs
    iintro HO Hcs
    iapply Hk $$ HO
    isplitl [Hc]
    · iexact Hc
    · iexact Hcs

/-! ## Waits -/

/-- A wait takes the cell's position and credit, and leaves its counter at zero, closed, with what it hands over. -/
def waitIn (a : Fin 8) (k : Fin 7) : sProp 𝕄 :=
  iprop(cred (tallyAt (dCell a k c) () (cr a)) ∗ atPos ER (dCell a k c) 0 ∅ 0)
def waitOut (a : Fin 8) (k : Fin 7) : sProp 𝕄 := iprop(semVal (dCell a k c) 0 ∗ dmaPay K c a k)

/-- A wait on a DMA cell, allowed when all that is owed is above a level that the cell does not exceed: `waitIn` goes in, `waitOut` comes out. -/
theorem wp_take {s s' : Shape} (a : Fin 8) (k : Fin 7) (q : DmaSem sig) (hq : q = dsem a k) (src : Memref sig .tc .vmem s .bf16)
    (dst : Memref sig .tc .vmem s' .bf16) (hN : dst.view.dmaCredit = cr a) {h1 : src.view.WordExact} {h2 : dst.view.WordExact}
    {n : ℕ} (O : CellTallies nD τ sig Unit) (hl : lv (dCell a k c) () ≤ n) (hO : Above n O) :
    iprop(recs K Kn ∗ due c O ∗ waitIn c a k)
      ⊢ iprop((due c O -∗ waitOut K c a k -∗ Wp c p Q) -∗ Wp c (.op (.waitDma2 q src dst h1 h2) fun _ => p) Q) := by
  subst hq
  unfold due waitIn waitOut
  iintro ⟨#HR, ⟨%W, HO⟩, Hc, Hat⟩ Hk
  iapply (Rounds.wp_wait_rest_token 𝒱₀ ER (Rd K) (c : Thread nD τ) none (κ := Kn (c, some (a, k)))
      (wpE_waitDma2_eq 𝒱₀ (c : Thread nD τ) none Set.univ) (Set.mem_univ _) () (O := O) (W := W) (R := 0) (m := 0) (T := ∅)
      (by rw [Nat.zero_add, expect_dma]; exact hN)) $$ [Hc HO Hat]
  · isplitr; · iapply (recs_inv K Kn (c, some (a, k))); iexact HR
    isplitl [Hc]; · rw [hN]; iexact Hc
    isplitl [HO]; · iexact HO
    isplitr; · iapply (mayWait c (.dma (dsem a k)) O hl hO); iapply (recs_levs K Kn); iexact HR
    iexact Hat
  iintro ⟨HO, Hat, -, Hpay⟩
  ihave Hp := (Entails.of_eq (rest_dma K c a k)) $$ Hpay
  imod (Rounds.cell_close ER (Rd K) (Set.mem_univ (Kn (c, some (a, k)))) (fun h => h) (R := 0 + 1)
    (fun r hr => duties_later K (dCell a k c) r (by omega))) $$ [Hat] with Hz
  · isplitr; · iapply (recs_inv K Kn (c, some (a, k))); iexact HR
    iexact Hat
  iapply Hk $$ [HO]
  · iexists _
    iexact HO
  isplitl [Hz]
  · iexact Hz
  · iexact Hp

/-- The barrier's wait. -/
theorem wp_barrier (O : CellTallies nD τ sig Unit) (hO : Above 1 O) :
    iprop(recs K Kn ∗ due c O ∗ cred (tallyAt (barCell c) () 7) ∗ atPos ER (barCell c) 0 ∅ 0)
      ⊢ iprop((due c O -∗ semVal (barCell c) 0 -∗ (bigSep Finset.univ fun k => barPay (F := F) c k) -∗ Wp c p Q)
          -∗ Wp c (.op (.semWait barS (7#32 : BitVec 32).toInt) fun _ => p) Q) := by
  unfold due
  iintro ⟨#HR, ⟨%W, HO⟩, Hc, Hat⟩ Hk
  iapply (Rounds.wp_wait_rest_token 𝒱₀ ER (Rd K) (c : Thread nD τ) none (κ := Kn (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (recs_inv K Kn (c, none)); iexact HR
    isplitl [Hc]; · iexact Hc
    isplitl [HO]; · iexact HO
    isplitr; · iapply (mayWait c (.reg barS) O (n := 1) (by rw [lv_bar]) hO); iapply (recs_levs K Kn); iexact HR
    iexact Hat
  iintro ⟨HO, Hat, -, Hpay⟩
  ihave Hp := (Entails.of_eq (rest_bar K c)) $$ Hpay
  imod (Rounds.cell_close ER (Rd K) (Set.mem_univ (Kn (c, none))) (fun h => h) (R := 0 + 1)
    (fun r hr => duties_later K (barCell c) r (by omega))) $$ [Hat] with Hz
  · isplitr; · iapply (recs_inv K Kn (c, none)); iexact HR
    iexact Hat
  iapply Hk $$ [HO] Hz Hp
  iexists _
  iexact HO

/-- A reduce-scatter receive cell is at level 2 at most. -/
theorem lv_rsR (h : Fin 2) (k : Fin 7) : lv (dCell (rsR h) k c) () ≤ 2 := by rw [lv_dma]; split_ifs <;> simp_all <;> omega
/-- A DMA cell of the exchange is at level 3 at most. -/
theorem lv_le (a : Fin 8) (k : Fin 7) : lv (dCell a k c) () ≤ 3 := by rw [lv_dma]; split_ifs <;> omega

/-- The waits for the peers' chunks. -/
theorem wp_rsRecvs (h : Fin 2) (O : CellTallies nD τ sig Unit) (hO : Above 2 O) (ks : List (Fin 7)) :
    iprop(recs K Kn ∗ due c O ∗ bigSepL ks (waitIn c (rsR h)))
      ⊢ iprop((due c O -∗ bigSepL ks (waitOut K c (rsR h)) -∗ Wp c p Q) -∗ Wp c (rsRecvs h c ks p) Q) := by
  induction ks with
  | nil =>
    iintro ⟨-, HO, -⟩ Hk
    iapply Hk $$ HO
    rw [bigSepL_nil]
    iempintro
  | cons k ks ih =>
    rw [lsep_cons, lsep_cons]
    iintro ⟨#HR, HO, Hin, Hs⟩ Hk
    iapply (wp_take K Kn c (p := rsRecvs h c ks p) (rsR h) k _ (semA_eq (rsR h) k) (srcM h c k) (slotM h k.succ)
      ((credit_slot h _).trans (cr_rsR h).symm) O (lv_rsR c h k) hO) $$ [HO Hin]
    · isplitr; · iexact HR
      isplitl [HO]; · iexact HO
      iexact Hin
    iintro HO Hc
    iapply ih $$ [HO Hs]
    · isplitr; · iexact HR
      isplitl [HO]; · iexact HO
      iexact Hs
    iintro HO Hcs
    iapply Hk $$ HO
    isplitl [Hc]
    · iexact Hc
    · iexact Hcs

/-- The waits for the own chunks' copies, both halves. -/
theorem wp_rsDones (ks : List (Fin 7)) :
    iprop(recs K Kn ∗ due c 0 ∗ bigSepL ks fun k => iprop(waitIn c (rsS 0) k ∗ waitIn c (rsS 1) k))
      ⊢ iprop((due c 0 -∗ (bigSepL ks fun k => iprop(waitOut K c (rsS 0) k ∗ waitOut K c (rsS 1) k)) -∗ Wp c p Q) -∗ Wp c (rsDones c ks p) Q) := by
  induction ks with
  | nil =>
    iintro ⟨-, HO, -⟩ Hk
    iapply Hk $$ HO
    rw [bigSepL_nil]
    iempintro
  | cons k ks ih =>
    rw [lsep_cons, lsep_cons]
    iintro ⟨#HR, HO, ⟨Hin, Hin'⟩, Hs⟩ Hk
    iapply (wp_take K Kn c (rsS 0) k _ (semA_eq (rsS 0) k) (slotM 0 k.succ) (srcM 0 c k)
      ((by rw [srcM_eq] : (srcM 0 c k).view.dmaCredit = NR).trans (cr_rsS 0).symm) 0 (lv_le c _ k) (Above.zero 3)) $$ [HO Hin]
    · isplitr; · iexact HR
      isplitl [HO]; · iexact HO
      iexact Hin
    iintro HO Hc
    iapply (wp_take K Kn c (p := rsDones c ks p) (rsS 1) k _ (semA_eq (rsS 1) k) (slotM 1 k.succ) (srcM 1 c k)
      ((by rw [srcM_eq] : (srcM 1 c k).view.dmaCredit = NR).trans (cr_rsS 1).symm) 0 (lv_le c _ k) (Above.zero 3)) $$ [HO Hin']
    · isplitr; · iexact HR
      isplitl [HO]; · iexact HO
      iexact Hin'
    iintro HO Hc'
    iapply ih $$ [HO Hs]
    · isplitr; · iexact HR
      isplitl [HO]; · iexact HO
      iexact Hs
    iintro HO Hcs
    iapply Hk $$ HO
    isplitl [Hc Hc']
    · isplitl [Hc]
      · iexact Hc
      · iexact Hc'
    · iexact Hcs

/-- The waits for the own blocks' copies, both halves. -/
theorem wp_agDones (ks : List (Fin 7)) :
    iprop(recs K Kn ∗ due c 0 ∗ bigSepL ks fun k => iprop(waitIn c (agS 0) k ∗ waitIn c (agS 1) k))
      ⊢ iprop((due c 0 -∗ (bigSepL ks fun k => iprop(waitOut K c (agS 0) k ∗ waitOut K c (agS 1) k)) -∗ Wp c p Q) -∗ Wp c (agDones c ks p) Q) := by
  induction ks with
  | nil =>
    iintro ⟨-, HO, -⟩ Hk
    iapply Hk $$ HO
    rw [bigSepL_nil]
    iempintro
  | cons k ks ih =>
    rw [lsep_cons, lsep_cons]
    iintro ⟨#HR, HO, ⟨Hin, Hin'⟩, Hs⟩ Hk
    iapply (wp_take K Kn c (agS 0) k _ (semA_eq (agS 0) k) (ownM 0 c) (ownM 0 c)
      ((by rw [ownM_eq] : (ownM 0 c).view.dmaCredit = NA).trans (cr_agS 0).symm) 0 (lv_le c _ k) (Above.zero 3)) $$ [HO Hin]
    · isplitr; · iexact HR
      isplitl [HO]; · iexact HO
      iexact Hin
    iintro HO Hc
    iapply (wp_take K Kn c (p := agDones c ks p) (agS 1) k _ (semA_eq (agS 1) k) (ownM 1 c) (ownM 1 c)
      ((by rw [ownM_eq] : (ownM 1 c).view.dmaCredit = NA).trans (cr_agS 1).symm) 0 (lv_le c _ k) (Above.zero 3)) $$ [HO Hin']
    · isplitr; · iexact HR
      isplitl [HO]; · iexact HO
      iexact Hin'
    iintro HO Hc'
    iapply ih $$ [HO Hs]
    · isplitr; · iexact HR
      isplitl [HO]; · iexact HO
      iexact Hs
    iintro HO Hcs
    iapply Hk $$ HO
    isplitl [Hc Hc']
    · isplitl [Hc]
      · iexact Hc
      · iexact Hc'
    · iexact Hcs

/-! ## The all-gather's updates of the output -/

/-- The output after the updates of steps `ks` with the peers' blocks. -/
def updated (h : Fin 2) : List (Fin 7) → (S1024x512.Idx → Elt F .f32) → S1024x512.Idx → Elt F .f32
  | [], o => o
  | k :: ks, o => updated h ks ((updR h c k).overlay o (k0_pay68 (fun j => o ((updR h c k).emb j)) (K.blk h (peer k c))))

/-- A wait on an all-gather receive cell leaves its counter at zero and the peer's block. -/
theorem waitOut_agR (h : Fin 2) (k : Fin 7) :
    waitOut K c (agR h) k = iprop(semVal (dCell (agR h) k c) 0 ∗ ownsTc c (blockM h (peer k c)) fullShare (K.blk h (peer k c))) := by
  unfold waitOut; rw [dmaPay_agR]

/-- The all-gather steps `ks`: the waits' resources and the output go in; the output updated with the peers' blocks and what the waits hand over come out. -/
theorem wp_agSteps (h : Fin 2) (ks : List (Fin 7)) (o : S1024x512.Idx → Elt F .f32) :
    iprop(recs K Kn ∗ due c 0 ∗ ownsTc c outM fullShare o ∗ bigSepL ks (waitIn c (agR h)))
      ⊢ iprop((due c 0 -∗ ownsTc c outM fullShare (updated K c h ks o) -∗ bigSepL ks (waitOut K c (agR h)) -∗ Wp c p Q) -∗ Wp c (agSteps h c ks p) Q) := by
  induction ks generalizing o with
  | nil =>
    iintro ⟨-, HO, Ho, -⟩ Hk
    rw [show updated K c h [] o = o from rfl, bigSepL_nil]
    iapply Hk $$ HO Ho
    iempintro
  | cons k ks ih =>
    rw [lsep_cons, lsep_cons, waitOut_agR, show updated K c h (k :: ks) o
      = updated K c h ks ((updR h c k).overlay o (k0_pay68 (fun j => o ((updR h c k).emb j)) (K.blk h (peer k c)))) from rfl]
    iintro ⟨#HR, HO, Ho, Hin, Hs⟩ Hk
    iapply (wp_take K Kn c (agR h) k _ (semA_eq (agR h) k) (ownM h c) (ownM h c)
      ((by rw [ownM_eq] : (ownM h c).view.dmaCredit = NA).trans (cr_agR h).symm) 0 (lv_le c _ k) (Above.zero 3)) $$ [HO Hin]
    · isplitr; · iexact HR
      isplitl [HO]; · iexact HO
      iexact Hin
    iintro HO Hc
    ihave Hc := (Entails.of_eq (waitOut_agR K c h k)) $$ Hc
    icases Hc with ⟨Hz, Hb⟩
    iapply (wp_load_owns (c : Thread nD τ) fullShare 𝒱₀ none Set.univ outM o) $$ Ho
    iintro Ho
    ihave Hb := (Entails.of_eq (owns_slice_off (c : Thread nD τ) (gaM h) fullShare (off9_eq c k).symm _ (Gen.k0_off9_inb c k) _)) $$ Hb
    iapply (wp_load_owns_slice (c : Thread nD τ) fullShare 𝒱₀ none Set.univ (gaM h) (hr := fun _ => rfl) (K.blk h (peer k c))) $$ Hb
    iintro Hb
    ihave Hb := (Entails.of_eq (owns_slice_off (c : Thread nD τ) (gaM h) fullShare (off9_eq c k) (Gen.k0_off9_inb c k) (block_inb _) _)) $$ Hb
    iapply (wp_load_owns (c : Thread nD τ) fullShare 𝒱₀ none Set.univ outM o) $$ Ho
    iintro Ho
    iapply (wp_store_owns (c : Thread nD τ) 𝒱₀ none Set.univ outM (fun _ => rfl) o) $$ Ho
    iintro Ho
    iapply (ih ((updR h c k).overlay o (k0_pay68 (fun j => o ((updR h c k).emb j)) (K.blk h (peer k c))))) $$ [HO Ho Hs]
    · isplitr; · iexact HR
      isplitl [HO]; · iexact HO
      isplitl [Ho]; · iexact Ho
      iexact Hs
    iintro HO Ho Hcs
    iapply Hk $$ HO Ho
    isplitl [Hz Hb]
    · isplitl [Hz]
      · iexact Hz
      · iexact Hb
    · iexact Hcs

end Cert.Moe
-- ==== Proof.Pieces.lean ====
/-
# The scratch buffers in pieces

A send buffer is its eight chunks, a staging buffer its eight slots, a gather buffer its eight row blocks, each seen from device
`c`: `c`'s own piece and one per peer.
-/
module

public import proofs.«01_k».proof.Proof.Steps

@[expose] public section

noncomputable section

namespace Cert.Moe

open Cert.KernelIdeal Cert.KernelIdeal.Gen
open Idealize.ShloMosaic
open Idealize.ShloMosaic.TcCoe
open Idealize.ShloMosaic.Transfers (dealOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Listing -/

/-- A product over eight is its first member and the seven others. -/
theorem eight (Φ : Fin 8 → sProp 𝕄) : bigSep Finset.univ Φ = iprop(Φ 0 ∗ bigSep Finset.univ fun k : Fin 7 => Φ k.succ) := by
  rw [bigSep_univ_eq_bigSepL [0, 1, 2, 3, 4, 5, 6, 7] (by decide) (by decide) Φ,
    bigSep_univ_eq_bigSepL [0, 1, 2, 3, 4, 5, 6] (by decide) (by decide) fun k : Fin 7 => Φ k.succ]
  rfl

/-- All devices: `c` and its seven peers. -/
theorem around (c : Dev nD) (Φ : Dev nD → sProp 𝕄) :
    bigSep Finset.univ Φ = iprop(Φ c ∗ bigSep Finset.univ fun k : Fin 7 => Φ (peer k c)) := by
  rw [BI.bigSep_univ_equiv (pxEquiv c) Φ, eight]
  show iprop(Φ (px 0 c) ∗ _) = _
  rw [px_zero]
  rfl

/-- A product over two is its two members. -/
theorem two (Φ : Fin 2 → sProp 𝕄) : bigSep Finset.univ Φ = iprop(Φ 0 ∗ Φ 1) := BI.bigSep_fin_two Φ

/-- A product over the seven steps, listed in the order `up`. -/
theorem up_eq (Φ : Fin 7 → sProp 𝕄) : bigSep Finset.univ Φ = bigSepL up Φ := bigSep_univ_eq_bigSepL _ (by decide) (by decide) Φ
/-- A product over the seven steps, listed in the order `down`. -/
theorem down_eq (Φ : Fin 7 → sProp 𝕄) : bigSep Finset.univ Φ = bigSepL down Φ := bigSep_univ_eq_bigSepL _ (by decide) (by decide) Φ
/-- A product over the seven steps, listed in the order `take`. -/
theorem take_eq (Φ : Fin 7 → sProp 𝕄) : bigSep Finset.univ Φ = bigSepL take Φ := bigSep_univ_eq_bigSepL _ (by decide) (by decide) Φ

/-! ## Whole rectangles -/

/-- The rectangle at offset zero with the full size keeps every position. -/
theorem emb_full {sh : Shape} {off : Fin sh.rank → ℕ} (h : off = fun _ => 0) (p : ∀ a, off a + sh.size a ≤ sh.size a)
    (j : (Rect.unit off sh.size p).shape.Idx) : (Rect.unit off sh.size p).emb j = j := by
  funext a
  apply Fin.ext
  rw [Rect.emb_apply]
  subst h
  show 0 + 1 * (j a).val = _
  omega

/-- Writing over that rectangle replaces the whole contents. -/
theorem overlay_full {sh : Shape} {α : Type} {off : Fin sh.rank → ℕ} (h : off = fun _ => 0) (p : ∀ a, off a + sh.size a ≤ sh.size a)
    (X w : sh.Idx → α) : (Rect.unit off sh.size p).overlay X w = w := by
  funext j
  have e := Rect.overlay_emb (Rect.unit off sh.size p) X w j
  rw [emb_full h p j] at e
  exact e

/-- The offset with two zeros is zero everywhere. -/
theorem zero2 : (![0, 0] : Fin 2 → ℕ) = fun _ => 0 := funext fun a => by fin_cases a <;> rfl
/-- The offset with three zeros is zero everywhere. -/
theorem zero3 : (![0, 0, 0] : Fin 3 → ℕ) = fun _ => 0 := funext fun a => by fin_cases a <;> rfl

/-! ## A squeezed memref -/

/-- Holding a squeezed buffer is holding the buffer itself, with the contents reshaped. -/
theorem owns_squeeze (c : Dev nD) {s s' : Shape} {e : EltTy} (M : Memref sig .tc .vmem s e) (hq : s.Squeezes s') (q : PosShare TreeShare)
    (X : s'.Idx → Elt F e) :
    (ownsTc c (M.squeeze s' hq) q X : sProp 𝕄) = ownsTc c M q fun i => X (Shape.reshapeEquiv hq.numel_eq.symm i) := by
  have hset : (M.squeeze s' hq).view.set = M.view.set := View.set_reshape (v := M.view) hq.numel_eq
  have hread : ∀ f, (M.squeeze s' hq).view.read (Elt F) f = fun j => M.view.read (Elt F) f (Shape.reshapeEquiv hq.numel_eq j) := fun f => rfl
  refine BI.equiv_iff.mp ⟨?_, ?_⟩
  · show iprop(∃ f, ⌜(M.squeeze s' hq).view.read (Elt F) f = X⌝ ∗ (M.squeeze s' hq).view.loc (c : Thread nD τ) ↦[(M.squeeze s' hq).view.set]{q} f)
      ⊢ iprop(∃ f, ⌜M.view.read (Elt F) f = _⌝ ∗ M.view.loc (c : Thread nD τ) ↦[M.view.set]{q} f)
    rw [hset]
    iintro ⟨%f, %hf, H⟩
    iexists f
    isplitr
    · ipureintro
      rw [← hf, hread]
      funext i
      dsimp only
      rw [Shape.reshapeEquiv_reshapeEquiv, Shape.reshapeEquiv_self]
    · iexact H
  · show iprop(∃ f, ⌜M.view.read (Elt F) f = _⌝ ∗ M.view.loc (c : Thread nD τ) ↦[M.view.set]{q} f)
      ⊢ iprop(∃ f, ⌜(M.squeeze s' hq).view.read (Elt F) f = X⌝ ∗ (M.squeeze s' hq).view.loc (c : Thread nD τ) ↦[(M.squeeze s' hq).view.set]{q} f)
    rw [hset]
    iintro ⟨%f, %hf, H⟩
    iexists f
    isplitr
    · ipureintro
      rw [hread, hf]
      funext i
      dsimp only
      rw [Shape.reshapeEquiv_reshapeEquiv, Shape.reshapeEquiv_self]
    · iexact H

/-! ## The pieces -/

/-- The chunks for different devices are disjoint. -/
theorem chunk_disj (d d' : Fin 8) (h : d ≠ d') : Disjoint (chunkR d).set (chunkR d').set :=
  Finset.disjoint_left.mpr fun i hi hi' => h (Fin.ext (by
    have a := Rect.mem_set_unit.mp hi 0; have b := Rect.mem_set_unit.mp hi' 0
    change 48 * d.val ≤ _ ∧ _ < 48 * d.val + 48 at a; change 48 * d'.val ≤ _ ∧ _ < 48 * d'.val + 48 at b; omega))
/-- Different slots are disjoint. -/
theorem slot_disj (d d' : Fin 8) (h : d ≠ d') : Disjoint (slotR d).set (slotR d').set :=
  Finset.disjoint_left.mpr fun i hi hi' => h (Fin.ext (by
    have a := Rect.mem_set_unit.mp hi 0; have b := Rect.mem_set_unit.mp hi' 0
    change d.val ≤ _ ∧ _ < d.val + 1 at a; change d'.val ≤ _ ∧ _ < d'.val + 1 at b; omega))
/-- The blocks of different devices are disjoint. -/
theorem block_disj (d d' : Fin 8) (h : d ≠ d') : Disjoint (blockR d).set (blockR d').set :=
  Finset.disjoint_left.mpr fun i hi hi' => h (Fin.ext (by
    have a := Rect.mem_set_unit.mp hi 0; have b := Rect.mem_set_unit.mp hi' 0
    change 128 * d.val ≤ _ ∧ _ < 128 * d.val + 128 at a; change 128 * d'.val ≤ _ ∧ _ < 128 * d'.val + 128 at b; omega))

/-- The chunk, the slot and the block a position lies in, and its place there. -/
def chunkOf (i : S384x256.Idx) : Fin 8 := ⟨(i 0).val / 48, by have := (i 0).isLt; change _ < 384 at this; omega⟩
def slotOf (i : S8x48x256.Idx) : Fin 8 := i 0
def blockOf (i : S1024x256.Idx) : Fin 8 := ⟨(i 0).val / 128, by have := (i 0).isLt; change _ < 1024 at this; omega⟩
def inSlot (i : S8x48x256.Idx) : S1x48x256.Idx
  | ⟨0, _⟩ => (⟨0, by decide⟩ : Fin 1)
  | ⟨1, _⟩ => i 1
  | ⟨2, _⟩ => i 2
def inBlock (i : S1024x256.Idx) : S128x256.Idx
  | ⟨0, _⟩ => (⟨(i 0).val % 128, Nat.mod_lt _ (by decide)⟩ : Fin 128)
  | ⟨1, _⟩ => i 1

/-- The eight chunks cover a send buffer. -/
theorem chunk_cover : (Finset.univ : Finset (Fin 8)).biUnion (fun d => (chunkR d).set) = Finset.univ := by
  ext i
  simp only [Finset.mem_biUnion, Finset.mem_univ, true_and, iff_true]
  refine ⟨chunkOf i, Rect.mem_set_unit.mpr fun a => ?_⟩
  fin_cases a
  · show 48 * ((i 0).val / 48) ≤ (i 0).val ∧ (i 0).val < 48 * ((i 0).val / 48) + 48; omega
  · show 0 ≤ (i 1).val ∧ (i 1).val < 0 + 256; have := (i 1).isLt; change _ < 256 at this; omega
/-- The eight slots cover a staging buffer. -/
theorem slot_cover : (Finset.univ : Finset (Fin 8)).biUnion (fun d => (slotR d).set) = Finset.univ := by
  ext i
  simp only [Finset.mem_biUnion, Finset.mem_univ, true_and, iff_true]
  refine ⟨slotOf i, Rect.mem_set_unit.mpr fun a => ?_⟩
  fin_cases a
  · show (i 0).val ≤ (i 0).val ∧ (i 0).val < (i 0).val + 1; omega
  · show 0 ≤ (i 1).val ∧ (i 1).val < 0 + 48; have := (i 1).isLt; change _ < 48 at this; omega
  · show 0 ≤ (i 2).val ∧ (i 2).val < 0 + 256; have := (i 2).isLt; change _ < 256 at this; omega
/-- The eight blocks cover a gather buffer. -/
theorem block_cover : (Finset.univ : Finset (Fin 8)).biUnion (fun d => (blockR d).set) = Finset.univ := by
  ext i
  simp only [Finset.mem_biUnion, Finset.mem_univ, true_and, iff_true]
  refine ⟨blockOf i, Rect.mem_set_unit.mpr fun a => ?_⟩
  fin_cases a
  · show 128 * ((i 0).val / 128) ≤ (i 0).val ∧ (i 0).val < 128 * ((i 0).val / 128) + 128; omega
  · show 0 ≤ (i 1).val ∧ (i 1).val < 0 + 256; have := (i 1).isLt; change _ < 256 at this; omega

/-- A position of slot `s` lies in slot `s`. -/
theorem slotOf_emb (s : Fin 8) (j : S1x48x256.Idx) : slotOf ((slotR s).emb j) = s := by
  apply Fin.ext
  show (((slotR s).emb j) 0).val = _
  rw [Rect.emb_apply]
  show s.val + 1 * (j 0).val = s.val
  have := (j 0).isLt; change _ < 1 at this; omega
/-- The place in its slot of position `j` of a slot is `j`. -/
theorem inSlot_emb (s : Fin 8) (j : S1x48x256.Idx) : inSlot ((slotR s).emb j) = j := by
  funext a
  apply Fin.ext
  fin_cases a
  · show 0 = (j 0).val
    have := (j 0).isLt; change _ < 1 at this; omega
  · show (((slotR s).emb j) 1).val = _
    rw [Rect.emb_apply]
    show 0 + 1 * (j 1).val = (j 1).val; omega
  · show (((slotR s).emb j) 2).val = _
    rw [Rect.emb_apply]
    show 0 + 1 * (j 2).val = (j 2).val; omega
/-- A position of block `d` lies in block `d`. -/
theorem blockOf_emb (d : Fin 8) (j : S128x256.Idx) : blockOf ((blockR d).emb j) = d := by
  apply Fin.ext
  show (((blockR d).emb j) 0).val / 128 = _
  rw [Rect.emb_apply]
  show (128 * d.val + 1 * (j 0).val) / 128 = d.val
  have := (j 0).isLt; change _ < 128 at this; omega
/-- The place in its block of position `j` of a block is `j`. -/
theorem inBlock_emb (d : Fin 8) (j : S128x256.Idx) : inBlock ((blockR d).emb j) = j := by
  funext a
  apply Fin.ext
  fin_cases a
  · show (((blockR d).emb j) 0).val % 128 = (j 0).val
    rw [Rect.emb_apply]
    show (128 * d.val + 1 * (j 0).val) % 128 = (j 0).val
    have := (j 0).isLt; change _ < 128 at this; omega
  · show (((blockR d).emb j) 1).val = _
    rw [Rect.emb_apply]
    show 0 + 1 * (j 1).val = (j 1).val; omega

variable (K : Cont F) (c : Dev nD) (h : Fin 2)

/-- What device `c`'s staging buffer reads when all chunks are in: slot `s` the chunk for `c` of the device `s` away. -/
def Cont.stg (h : Fin 2) (c : Dev nD) : S8x48x256.Idx → Elt F .bf16 := fun i => k0_pay56 (K.chunk h (px (slotOf i) c) c) (inSlot i)
/-- What device `c`'s gather buffer reads when all blocks are in. -/
def Cont.gat (h : Fin 2) : S1024x256.Idx → Elt F .bf16 := fun i => K.blk h (blockOf i) (inBlock i)

/-- A buffer held at some contents. -/
abbrev has {s : Shape} {e : EltTy} (c : Dev nD) (m : Memref sig .tc .vmem s e) : sProp 𝕄 := iprop(∃ X, ownsTc c m fullShare X)

/-- A full send buffer is its chunks, -/
theorem sb_split : (ownsTc c (sbM h) fullShare (K.sb h c) : sProp 𝕄)
    ⊢ iprop(ownsTc c (chunkM h c) fullShare (K.chunk h c c)
      ∗ bigSep Finset.univ fun k => ownsTc c (chunkM h (peer k c)) fullShare (K.chunk h c (peer k c))) := by
  have e := around (F := F) c fun d => ownsTc c (chunkM h d) fullShare (K.chunk h c d)
  rw [← e]
  exact owns_rects (c : Thread nD τ) (sbM h) fullShare chunkR (fun _ _ => rfl) chunk_disj chunk_cover _
/-- and the chunks, each reading its part, are the full send buffer again. -/
theorem sb_join : iprop(ownsTc c (chunkM h c) fullShare (K.chunk h c c)
      ∗ bigSep Finset.univ fun k => ownsTc c (chunkM h (peer k c)) fullShare (K.chunk h c (peer k c)))
    ⊢ (ownsTc c (sbM h) fullShare (K.sb h c) : sProp 𝕄) := by
  have e := around (F := F) c fun d => ownsTc c (chunkM h d) fullShare (K.chunk h c d)
  rw [← e]
  exact owns_of_rects (c : Thread nD τ) (sbM h) fullShare chunkR (fun _ _ => rfl) chunk_disj chunk_cover _

/-- A staging buffer is slot 0 and the peers' slots, -/
theorem st_split : (has c (stM h) : sProp 𝕄)
    ⊢ iprop(has c (slotRM h 0) ∗ bigSep Finset.univ fun k : Fin 7 => has c (slotM h k.succ)) := by
  iintro ⟨%X, H⟩
  have e0 : (ownsTc c (stM h) fullShare X : sProp 𝕄) ⊢ bigSep Finset.univ fun s => ownsTc c (slotRM h s) fullShare fun j => X ((slotR s).emb j) :=
    owns_rects (c : Thread nD τ) (stM h) fullShare slotR (fun _ _ => rfl) slot_disj slot_cover X
  ihave H := e0 $$ H
  ihave H := (Entails.of_eq (eight (F := F) fun s => ownsTc c (slotRM h s) fullShare fun j => X ((slotR s).emb j))) $$ H
  icases H with ⟨H0, H⟩
  isplitl [H0]
  · iexists _
    iexact H0
  · have e : ∀ k : Fin 7, (ownsTc c (slotRM h k.succ) fullShare (fun j => X ((slotR k.succ).emb j)) : sProp 𝕄) ⊢ has c (slotM h k.succ) := fun k => by
      iintro H
      iexists fun i => X ((slotR k.succ).emb (Shape.reshapeEquiv squeezes_S1x48x256_S48x256.numel_eq i))
      rw [owns_squeeze]
      simp only [Shape.reshapeEquiv_reshapeEquiv, Shape.reshapeEquiv_self]
      iexact H
    have e' : (bigSep Finset.univ fun k : Fin 7 => (ownsTc c (slotRM h k.succ) fullShare (fun j => X ((slotR k.succ).emb j)) : sProp 𝕄))
      ⊢ bigSep Finset.univ fun k : Fin 7 => has c (slotM h k.succ) := bigSep_mono fun k _ => e k
    iapply e'
    iexact H
/-- and back once every chunk is in. -/
theorem st_join : iprop(ownsTc c (slotRM h 0) fullShare (k0_pay56 (K.chunk h c c))
      ∗ bigSep Finset.univ fun k : Fin 7 => ownsTc c (slotM h k.succ) fullShare (K.chunk h (peer k c) c))
    ⊢ (ownsTc c (stM h) fullShare (K.stg h c) : sProp 𝕄) := by
  have e : ∀ s : Fin 8, (ownsTc c (slotRM h s) fullShare (fun j => K.stg h c ((slotR s).emb j)) : sProp 𝕄)
      = ownsTc c (slotRM h s) fullShare (k0_pay56 (K.chunk h (px s c) c)) := fun s => by
    congr 1
    funext j
    unfold Cont.stg
    rw [slotOf_emb, inSlot_emb]
  have e' : ∀ k : Fin 7, (ownsTc c (slotM h k.succ) fullShare (K.chunk h (peer k c) c) : sProp 𝕄)
      = ownsTc c (slotRM h k.succ) fullShare (fun j => K.stg h c ((slotR k.succ).emb j)) := fun k => by
    rw [e, owns_squeeze]; rfl
  rw [bigSep_congr fun k _ => e' k, show K.chunk h c c = K.chunk h (px 0 c) c by rw [px_zero], ← e 0,
    ← eight (F := F) fun s => ownsTc c (slotRM h s) fullShare fun j => K.stg h c ((slotR s).emb j)]
  exact owns_of_rects (c : Thread nD τ) (stM h) fullShare slotR (fun _ _ => rfl) slot_disj slot_cover (K.stg h c)

/-- A gather buffer is the own block and the peers', -/
theorem ga_split : (has c (gaM h) : sProp 𝕄)
    ⊢ iprop(has c (blockM h c) ∗ bigSep Finset.univ fun k : Fin 7 => has c (blockM h (peer k c))) := by
  iintro ⟨%X, H⟩
  ihave H := (owns_rects (c : Thread nD τ) (gaM h) fullShare blockR (fun _ _ => rfl) block_disj block_cover X) $$ H
  have e1 : ∀ d, (ownsTc c (blockM h d) fullShare (fun j => X ((blockR d).emb j)) : sProp 𝕄) ⊢ has c (blockM h d) := fun d => by
    iintro H
    iexists _
    iexact H
  have e : (bigSep Finset.univ fun d => (ownsTc c (blockM h d) fullShare (fun j => X ((blockR d).emb j)) : sProp 𝕄))
      ⊢ bigSep Finset.univ fun d => has c (blockM h d) := bigSep_mono fun d _ => e1 d
  rw [← around (F := F) c fun d => has c (blockM h d)]
  iapply e
  iexact H
/-- and back once every block is in. -/
theorem ga_join : iprop(ownsTc c (blockM h c) fullShare (K.blk h c)
      ∗ bigSep Finset.univ fun k : Fin 7 => ownsTc c (blockM h (peer k c)) fullShare (K.blk h (peer k c)))
    ⊢ (ownsTc c (gaM h) fullShare (K.gat h) : sProp 𝕄) := by
  have e : ∀ d : Dev nD, (ownsTc c (blockM h d) fullShare (K.blk h d) : sProp 𝕄)
      = ownsTc c (blockM h d) fullShare (fun j => K.gat h ((blockR d).emb j)) := fun d => by
    congr 1
    funext j
    unfold Cont.gat
    rw [blockOf_emb, inBlock_emb]
  rw [← around (F := F) c fun d => ownsTc c (blockM h d) fullShare (K.blk h d), bigSep_congr fun d _ => e d]
  exact owns_of_rects (c : Thread nD τ) (gaM h) fullShare blockR (fun _ _ => rfl) block_disj block_cover (K.gat h)

/-- The own block in the seven shares its copies read at. -/
theorem block_deal : (ownsTc c (blockM h c) fullShare (K.blk h c) : sProp 𝕄)
    = bigSep Finset.univ fun k => ownsTc c (blockM h c) (agq k) (K.blk h c) :=
  owns_deal (c : Thread nD τ) (blockM h c) fullShare Finset.univ Finset.univ_nonempty _

/-! ## The barrier's payments -/

/-- What a device pays its peer's barrier with at step `k`: its own slot of that step and its own block for the peer, in both halves. -/
theorem pay_peer (k : Fin 7) : (barPay (F := F) (peer k c) k)
    = iprop((has c (slotM 0 k.succ) ∗ has c (blockM 0 (peer k c))) ∗ (has c (slotM 1 k.succ) ∗ has c (blockM 1 (peer k c)))) := by
  unfold barPay
  rw [two, peer_inv]

/-- What `c` pays its peers' barriers with, from its landing buffers; -/
theorem pay_all : iprop((bigSep Finset.univ fun k => dutyTok ER (barCell (peer k c)) 0 k)
      ∗ ((bigSep Finset.univ fun k : Fin 7 => has c (slotM 0 k.succ)) ∗ bigSep Finset.univ fun k => has c (blockM 0 (peer k c)))
      ∗ ((bigSep Finset.univ fun k : Fin 7 => has c (slotM 1 k.succ)) ∗ bigSep Finset.univ fun k => has c (blockM 1 (peer k c))))
    = (bigSep Finset.univ fun k => iprop(dutyTok ER (barCell (peer k c)) 0 k ∗ barPay (F := F) (peer k c) k)) := by
  simp only [pay_peer, bigSep_sep']

/-- what the barrier hands `c`: its landing buffers on the peers. -/
theorem bar_all : (bigSep Finset.univ fun k => barPay (F := F) c k)
    = iprop(((bigSep Finset.univ fun k : Fin 7 => has (peer k c) (slotM 0 k.succ)) ∗ bigSep Finset.univ fun k => has (peer k c) (blockM 0 c))
      ∗ ((bigSep Finset.univ fun k : Fin 7 => has (peer k c) (slotM 1 k.succ)) ∗ bigSep Finset.univ fun k => has (peer k c) (blockM 1 c))) := by
  have e : ∀ k, (barPay (F := F) c k) = iprop((has (peer k c) (slotM 0 k.succ) ∗ has (peer k c) (blockM 0 c))
      ∗ (has (peer k c) (slotM 1 k.succ) ∗ has (peer k c) (blockM 1 c))) := fun k => by
    unfold barPay
    rw [two]
  simp only [e, bigSep_sep']

end Cert.Moe
-- ==== Proof.Body.lean ====
/-
# The body on one device

The flat program, run from a device's share of the protocol and its buffers: it returns every counter at zero, the scratch and
input buffers, and the output holding `outV`.
-/
module

public import proofs.«01_k».proof.Proof.Pieces

@[expose] public section

noncomputable section

namespace Cert.Moe

open Cert.KernelIdeal Cert.KernelIdeal.Gen
open Idealize.ShloMosaic
open Idealize.ShloMosaic.TcCoe
open Idealize.ShloMosaic.Transfers (dealOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is computed -/

/-- One device's operands. -/
structure Inp (F : FTy → Type) where
  x : Vec F S1024x256 .bf16
  rw : Vec F S256x32 .bf16
  ix : Vec F S1024x1 .i32
  ew : Vec F S4x256x512 .bf16
  sw : Vec F S256x512 .bf16

/-- One of the device's four experts, and the indices of its own token block. -/
def Inp.ex (I : Inp F) (i : Fin 4) : Vec F S1x256x512 .bf16 := fun j => I.ew ((expR i).emb j)
def Inp.ixOwn (I : Inp F) (c : Dev nD) : Vec F S128x1 .i32 := fun j => I.ix ((ownIxR c).emb j)

variable (I : Dev nD → Inp F)

/-- The send buffers every device fills. -/
def sbV : Fin 2 → Dev nD → S384x256.Idx → Elt F .bf16 :=
  ![fun c => sendA c (I c).x (I c).rw (I c).ix ((I c).ex 0) ((I c).ex 1) ((I c).ex 2) ((I c).ex 3),
    fun c => sendB c (I c).x (I c).rw (I c).ix ((I c).ex 0) ((I c).ex 1) ((I c).ex 2) ((I c).ex 3)]
abbrev backOf (c : Dev nD) : FVec F S128x384 .bf16 := backV c ((I c).ixOwn c)
/-- The contents of the exchange: the send buffers, and the blocks reduced from what each device receives. -/
def cont : Cont F where
  sb := sbV I
  blk h c := k0_pay58 (backOf I c) (Cont.stg ⟨sbV I, fun _ _ _ => sbV I 0 c fun a => ⟨0, by fin_cases a <;> decide⟩⟩ h c)

/-- A reduced block is the reduction of the device's full staging buffer. -/
theorem cont_blk (h : Fin 2) (c : Dev nD) : (cont I).blk h c = k0_pay58 (backOf I c) ((cont I).stg h c) := rfl

/-- The output after the shared expert, then with the own block added in both halves, then with the peers'. -/
def outS (c : Dev nD) : S1024x512.Idx → Elt F .f32 := k0_pay59 (xV (I c).x) (I c).sw
def ownW (h : Fin 2) (c : Dev nD) (o : S1024x512.Idx → Elt F .f32) (w : Vec F S128x256 .f32 → FVec F S128x256 .f32) : S1024x512.Idx → Elt F .f32 :=
  (ownOutR h c).overlay o (w fun j => o ((ownOutR h c).emb j))
def outO (c : Dev nD) : S1024x512.Idx → Elt F .f32 :=
  ownW 1 c (ownW 0 c (outS I c) (k0_pay63 (k0_pay57 (backOf I c) ((cont I).stg 0 c)))) (k0_pay64 (k0_pay61 (backOf I c) ((cont I).stg 1 c)))
def outV (c : Dev nD) : S1024x512.Idx → Elt F .f32 := updated (cont I) c 1 take (updated (cont I) c 0 take (outO I c))

/-! ## Pieces of the program -/

variable (K : Cont F) (Kn : Dev nD × CI → ℕ) (c : Dev nD) {Q : PUnit → sProp (MT nD τ sig Unit (Elt F) ℕ UU ℕ)} {p : P F}

/-- A program that has returned satisfies what holds. -/
theorem wp_done : Q ⟨⟩ ⊢ Wp (F := F) c (.ret PUnit.unit) Q := by
  show Q ⟨⟩ ⊢ wp frame (wpE (defs₀ (F := F)) 𝒱₀ (c : Thread nD τ) none) Set.univ (.ret PUnit.unit) Q
  rw [wp_ret]
  iintro H
  imodintro
  iexact H

/-- Filling a send buffer leaves it reading the values stored. -/
theorem wp_fill (h : Fin 2) (w : FVec F S384x256 .bf16) :
    (has c (sbM h) : sProp 𝕄) ⊢ iprop((ownsTc c (sbM h) fullShare w -∗ Wp c p Q) -∗ Wp c (fill h w p) Q) := by
  iintro ⟨%X, H⟩ Hk
  unfold fill
  iapply (wp_load_owns (c : Thread nD τ) fullShare 𝒱₀ none Set.univ (sbM h) X) $$ H
  iintro H
  iapply (wp_store_owns (c : Thread nD τ) 𝒱₀ none Set.univ (sbM h) (fun _ => rfl) X) $$ H
  iintro H
  iapply Hk
  rw [overlay_full (sh := S384x256) zero2]
  iexact H

/-- Both at once: fill a send buffer, start its copies. -/
theorem wp_scatter (h : Fin 2) (O : CellTallies nD τ sig Unit) :
    iprop(recs K Kn ∗ due c (O + owe (rsR h) c down) ∗ has c (sbM h)
        ∗ (bigSep Finset.univ fun k : Fin 7 => has (peer k c) (slotM h k.succ))
        ∗ bigSep Finset.univ fun k => iprop(dutyTok ER (dCell (rsS h) k c) 0 0 ∗ dutyTok ER (dCell (rsR h) k (peer k c)) 0 0))
      ⊢ iprop((due c O -∗ (bigSep Finset.univ fun k => cred (tallyAt (dCell (rsS h) k c) () (cr (rsS h))))
            -∗ ownsTc c (chunkM h c) fullShare (K.chunk h c c) -∗ Wp c p Q)
          -∗ Wp c (fill h (K.sb h c) (rsSends h c down p)) Q) := by
  iintro ⟨#HR, HO, Hsb, Hsl, Ht⟩ Hk
  iapply (wp_fill c h (K.sb h c)) $$ Hsb
  iintro Hsb
  ihave Hsb := (sb_split K c h) $$ Hsb
  icases Hsb with ⟨Hown, Hch⟩
  have e : iprop((bigSep Finset.univ fun k => ownsTc c (chunkM h (peer k c)) fullShare (K.chunk h c (peer k c)))
        ∗ (bigSep Finset.univ fun k : Fin 7 => has (peer k c) (slotM h k.succ))
        ∗ bigSep Finset.univ fun k => iprop(dutyTok ER (dCell (rsS h) k c) 0 0 ∗ dutyTok ER (dCell (rsR h) k (peer k c)) 0 0))
      = (bigSepL down (rsIn K c h) : sProp 𝕄) := by
    rw [← down_eq]; unfold rsIn; simp only [bigSep_sep']
  rw [down_eq fun k => cred (tallyAt (dCell (rsS h) k c) () (cr (rsS h)))]
  iapply (wp_rsSends K Kn c (p := p) h O down) $$ [HO Hch Hsl Ht]
  · isplitr; · iexact HR
    isplitl [HO]; · iexact HO
    rw [← e]
    isplitl [Hch]; · iexact Hch
    isplitl [Hsl]; · iexact Hsl
    iexact Ht
  iintro HO Hc
  iapply Hk $$ HO Hc Hown

/-- Stage, take the peers' chunks, reduce, store: the staging buffer is full, the own block holds its contents. -/
theorem wp_reduce (h : Fin 2) (O : CellTallies nD τ sig Unit) (hO : Above 2 O) (b : FVec F S128x384 .bf16) (k : Vec F S8x48x256 .bf16 → P F)
    (hb : K.blk h c = k0_pay58 b (K.stg h c)) :
    iprop(recs K Kn ∗ due c O ∗ ownsTc c (chunkM h c) fullShare (K.chunk h c c) ∗ has c (slotRM h 0) ∗ has c (blockM h c)
        ∗ bigSep Finset.univ (waitIn c (rsR h)))
      ⊢ iprop((due c O -∗ ownsTc c (chunkM h c) fullShare (K.chunk h c c) -∗ has c (stM h) -∗ ownsTc c (blockM h c) fullShare (K.blk h c)
            -∗ (bigSep Finset.univ fun k => semVal (dCell (rsR h) k c) 0) -∗ Wp c (k (K.stg h c)) Q)
          -∗ Wp c (reduce h c b k) Q) := by
  have e : (bigSepL take (waitOut K c (rsR h)) : sProp 𝕄)
      = iprop((bigSep Finset.univ fun k => semVal (dCell (rsR h) k c) 0)
          ∗ bigSep Finset.univ fun k => ownsTc c (slotM h k.succ) fullShare (K.chunk h (peer k c) c)) := by
    rw [← take_eq]; unfold waitOut; simp only [bigSep_sep', dmaPay_rsR]
  iintro ⟨#HR, HO, Hch, ⟨%Y, Hs0⟩, ⟨%Z, Hb⟩, Hw⟩ Hk
  unfold reduce
  ihave Hch := (Entails.of_eq (owns_slice_off (c : Thread nD τ) (sbM h) fullShare (Gen.k0_off3_eq c).symm _ (Gen.k0_off3_inb c) _)) $$ Hch
  iapply (wp_load_owns_slice (c : Thread nD τ) fullShare 𝒱₀ none Set.univ (sbM h) (hr := fun _ => rfl) (K.chunk h c c)) $$ Hch
  iintro Hch
  ihave Hch := (Entails.of_eq (owns_slice_off (c : Thread nD τ) (sbM h) fullShare (Gen.k0_off3_eq c) (Gen.k0_off3_inb c) (chunk_inb _) _)) $$ Hch
  iapply (wp_load_owns_slice (c : Thread nD τ) fullShare 𝒱₀ none Set.univ (stM h) (hr := fun _ => rfl) Y) $$ Hs0
  iintro Hs0
  iapply (wp_store_owns_slice (c : Thread nD τ) 𝒱₀ none Set.univ (stM h) (hr := fun _ => rfl) Y) $$ Hs0
  iintro Hs0
  ihave Hw := (Entails.of_eq (take_eq (F := F) (waitIn c (rsR h)))) $$ Hw
  iapply (wp_rsRecvs K Kn c h O hO take) $$ [HO Hw]
  · isplitr; · iexact HR
    isplitl [HO]; · iexact HO
    iexact Hw
  iintro HO Hw
  ihave Hw := (Entails.of_eq e) $$ Hw
  icases Hw with ⟨Hz, Hsl⟩
  ihave Hst := (st_join K c h) $$ [Hs0 Hsl]
  · isplitl [Hs0]; · iexact Hs0
    iexact Hsl
  iapply (wp_load_owns (c : Thread nD τ) fullShare 𝒱₀ none Set.univ (stM h) (K.stg h c)) $$ Hst
  iintro Hst
  rw [show (fun j => K.stg h c (fullSt.emb j)) = K.stg h c from funext fun j => congrArg _ (emb_full (sh := S8x48x256) zero3 _ j)]
  ihave Hb := (Entails.of_eq (owns_slice_off (c : Thread nD τ) (gaM h) fullShare (Gen.k0_off4_eq c).symm _ (Gen.k0_off4_inb c) _)) $$ Hb
  iapply (wp_load_owns_slice (c : Thread nD τ) fullShare 𝒱₀ none Set.univ (gaM h) (hr := fun _ => rfl) Z) $$ Hb
  iintro Hb
  iapply (wp_store_owns_slice (c : Thread nD τ) 𝒱₀ none Set.univ (gaM h) (hr := fun _ => rfl) Z) $$ Hb
  iintro Hb
  ihave Hb := (Entails.of_eq (owns_slice_off (c : Thread nD τ) (gaM h) fullShare (Gen.k0_off4_eq c) (Gen.k0_off4_inb c) (block_inb _) _)) $$ Hb
  rw [hb]
  iapply Hk $$ HO Hch [Hst] Hb Hz
  iexists _
  iexact Hst

/-- Start the copies of the own block. -/
theorem wp_gather (h : Fin 2) (O : CellTallies nD τ sig Unit) :
    iprop(recs K Kn ∗ due c (O + owe (agR h) c down) ∗ ownsTc c (blockM h c) fullShare (K.blk h c)
        ∗ (bigSep Finset.univ fun k => has (peer k c) (blockM h c))
        ∗ bigSep Finset.univ fun k => iprop(dutyTok ER (dCell (agS h) k c) 0 0 ∗ dutyTok ER (dCell (agR h) k (peer k c)) 0 0))
      ⊢ iprop((due c O -∗ (bigSep Finset.univ fun k => cred (tallyAt (dCell (agS h) k c) () (cr (agS h)))) -∗ Wp c p Q)
          -∗ Wp c (agSends h c down p) Q) := by
  have e : iprop((bigSep Finset.univ fun k => ownsTc c (blockM h c) (agq k) (K.blk h c))
        ∗ (bigSep Finset.univ fun k => has (peer k c) (blockM h c))
        ∗ bigSep Finset.univ fun k => iprop(dutyTok ER (dCell (agS h) k c) 0 0 ∗ dutyTok ER (dCell (agR h) k (peer k c)) 0 0))
      = (bigSepL down (agIn K c h) : sProp 𝕄) := by
    rw [← down_eq]; unfold agIn; simp only [bigSep_sep']
  iintro ⟨#HR, HO, Hb, Hl, Ht⟩ Hk
  ihave Hb := (Entails.of_eq (block_deal K c h)) $$ Hb
  rw [down_eq fun k => cred (tallyAt (dCell (agS h) k c) () (cr (agS h)))]
  iapply (wp_agSends K Kn c (p := p) h O down) $$ [HO Hb Hl Ht]
  · isplitr; · iexact HR
    isplitl [HO]; · iexact HO
    rw [← e]
    isplitl [Hb]; · iexact Hb
    isplitl [Hl]; · iexact Hl
    iexact Ht
  iexact Hk

/-- The shared expert's step leaves the output reading the shared product and the shared weights as they were. -/
theorem wp_shared (x : Vec F S1024x256 .bf16) (sw : Vec F S256x512 .bf16) :
    iprop(ownsTc c swM fullShare sw ∗ has c outM)
      ⊢ iprop((ownsTc c swM fullShare sw -∗ ownsTc c outM fullShare (k0_pay59 (xV x) sw) -∗ Wp c p Q) -∗ Wp c (sharedAll x p) Q) := by
  iintro ⟨Hw, ⟨%o, Ho⟩⟩ Hk
  unfold sharedAll
  iapply (wp_load_owns (c : Thread nD τ) fullShare 𝒱₀ none Set.univ swM sw) $$ Hw
  iintro Hw
  rw [show (fun j => sw ((Rect.unit ![0, 0] S256x512.size Gen.inb_S256x512_S256x512_0_0).emb j)) = sw from
    funext fun j => congrArg _ (emb_full (sh := S256x512) zero2 _ j)]
  iapply (wp_load_owns (c : Thread nD τ) fullShare 𝒱₀ none Set.univ outM o) $$ Ho
  iintro Ho
  iapply (wp_store_owns (c : Thread nD τ) 𝒱₀ none Set.univ outM (fun _ => rfl) o) $$ Ho
  iintro Ho
  rw [overlay_full (sh := S1024x512) zero2]
  iapply Hk $$ Hw Ho

/-- Adding the own block leaves the output reading `ownW` of its old contents. -/
theorem wp_ownAdd (h : Fin 2) (w : Vec F S128x256 .f32 → FVec F S128x256 .f32) (o : S1024x512.Idx → Elt F .f32) :
    (ownsTc c outM fullShare o : sProp 𝕄) ⊢ iprop((ownsTc c outM fullShare (ownW h c o w) -∗ Wp c p Q) -∗ Wp c (ownAdd h c w p) Q) := by
  iintro Ho Hk
  unfold ownAdd ownW
  iapply (wp_load_owns (c : Thread nD τ) fullShare 𝒱₀ none Set.univ outM o) $$ Ho
  iintro Ho
  iapply (wp_load_owns (c : Thread nD τ) fullShare 𝒱₀ none Set.univ outM o) $$ Ho
  iintro Ho
  iapply (wp_store_owns (c : Thread nD τ) 𝒱₀ none Set.univ outM (fun _ => rfl) o) $$ Ho
  iexact Hk

/-! ## The whole body -/

/-- A device's share of the protocol for one column half: the tokens of its copies, what its receive waits take, its send cells' positions. -/
def half (h : Fin 2) : sProp 𝕄 :=
  iprop((bigSep Finset.univ fun k => iprop(dutyTok ER (dCell (rsS h) k c) 0 0 ∗ dutyTok ER (dCell (rsR h) k (peer k c)) 0 0))
    ∗ (bigSep Finset.univ fun k => iprop(dutyTok ER (dCell (agS h) k c) 0 0 ∗ dutyTok ER (dCell (agR h) k (peer k c)) 0 0))
    ∗ bigSep Finset.univ (waitIn c (rsR h)) ∗ bigSep Finset.univ (waitIn c (agR h))
    ∗ (bigSep Finset.univ fun k => atPos ER (dCell (rsS h) k c) 0 ∅ 0) ∗ bigSep Finset.univ fun k => atPos ER (dCell (agS h) k c) 0 ∅ 0)
/-- A device's share of the protocol. -/
def mine : sProp 𝕄 :=
  iprop(cred (tallyAt (barCell c) () 7) ∗ atPos ER (barCell c) 0 ∅ 0 ∗ (bigSep Finset.univ fun k => dutyTok ER (barCell (peer k c)) 0 k)
    ∗ half c 0 ∗ half c 1)
/-- Its scratch buffers, its inputs, its counters at zero. -/
def scratch : sProp 𝕄 :=
  iprop((has c (sbM 0) ∗ has c (stM 0) ∗ has c (gaM 0)) ∗ has c (sbM 1) ∗ has c (stM 1) ∗ has c (gaM 1))
def inputs (i : Inp F) : sProp 𝕄 :=
  iprop(ownsTc c xM fullShare i.x ∗ ownsTc c rwM fullShare i.rw ∗ ownsTc c ixM fullShare i.ix ∗ ownsTc c ewM fullShare i.ew ∗ ownsTc c swM fullShare i.sw)
def zeros : sProp 𝕄 := iprop(semVal (barCell c) 0 ∗ bigSep Finset.univ fun a : Fin 8 => bigSep Finset.univ fun k => semVal (dCell a k c) 0)

/-- The credits and the positions of the cells of two arrays are what the waits on both, step by step, take. -/
theorem wait_two (a b : Fin 8) :
    iprop((bigSep Finset.univ fun k => (cred (tallyAt (dCell a k c) () (cr a)) : sProp 𝕄)) ∗ (bigSep Finset.univ fun k => atPos ER (dCell a k c) 0 ∅ 0)
        ∗ (bigSep Finset.univ fun k => cred (tallyAt (dCell b k c) () (cr b))) ∗ bigSep Finset.univ fun k => atPos ER (dCell b k c) 0 ∅ 0)
      ⊢ bigSepL up fun k => iprop(waitIn c a k ∗ waitIn c b k) := by
  rw [← up_eq]
  unfold waitIn
  simp only [bigSep_sep']
  iintro ⟨H1, H2, H3, H4⟩
  isplitl [H1 H2]
  · isplitl [H1] <;> iassumption
  · isplitl [H3] <;> iassumption

/-- What the waits on two arrays hand over, step by step, is the counters at zero and the payloads of each array. -/
theorem done_two (a b : Fin 8) :
    (bigSepL up fun k => iprop(waitOut K c a k ∗ waitOut K c b k))
      = iprop(((bigSep Finset.univ fun k => semVal (dCell a k c) 0) ∗ bigSep Finset.univ (dmaPay K c a))
        ∗ ((bigSep Finset.univ fun k => semVal (dCell b k c) 0) ∗ bigSep Finset.univ (dmaPay K c b))) := by
  rw [← up_eq]
  unfold waitOut
  simp only [bigSep_sep']

/-- The counters at zero of all eight arrays, listed by half and phase. -/
theorem zeros_eq : (bigSep Finset.univ fun a : Fin 8 => bigSep Finset.univ fun k => (semVal (dCell a k c) 0 : sProp 𝕄))
    = iprop((bigSep Finset.univ fun k => semVal (dCell (rsS 0) k c) 0) ∗ (bigSep Finset.univ fun k => semVal (dCell (rsR 0) k c) 0)
      ∗ (bigSep Finset.univ fun k => semVal (dCell (rsS 1) k c) 0) ∗ (bigSep Finset.univ fun k => semVal (dCell (rsR 1) k c) 0)
      ∗ (bigSep Finset.univ fun k => semVal (dCell (agS 0) k c) 0) ∗ (bigSep Finset.univ fun k => semVal (dCell (agR 0) k c) 0)
      ∗ (bigSep Finset.univ fun k => semVal (dCell (agS 1) k c) 0) ∗ (bigSep Finset.univ fun k => semVal (dCell (agR 1) k c) 0)) := by
  rw [bigSep_univ_eq_bigSepL [0, 1, 2, 3, 4, 5, 6, 7] (by decide) (by decide)]
  rfl

set_option maxHeartbeats 1000000 in
/-- The body from a device's share and buffers. -/
theorem wp_prog :
    iprop(recs (cont I) Kn ∗ due c (O₀ c) ∗ mine c ∗ scratch c ∗ inputs c (I c) ∗ has c outM)
      ⊢ iprop((due c 0 -∗ zeros c -∗ scratch c -∗ inputs c (I c) -∗ ownsTc c outM fullShare (outV I c) -∗ Q ⟨⟩) -∗ Wp c (prog (F := F) c) Q) := by
  unfold mine half scratch inputs
  iintro ⟨#HR, HO, ⟨HcB, HaB, HtB, ⟨Hrs0, Hag0, HwR0, HwA0, HaS0, HaG0⟩, Hrs1, Hag1, HwR1, HwA1, HaS1, HaG1⟩,
    ⟨⟨Hsb0, Hst0, Hga0⟩, Hsb1, Hst1, Hga1⟩, ⟨Hx, Hrw, Hix, Hew, Hsw⟩, Hout⟩ Hk
  ihave Hst0 := (st_split c 0) $$ Hst0
  ihave Hst1 := (st_split c 1) $$ Hst1
  ihave Hga0 := (ga_split c 0) $$ Hga0
  ihave Hga1 := (ga_split c 1) $$ Hga1
  icases Hst0 with ⟨Hz0, Hst0⟩
  icases Hst1 with ⟨Hz1, Hst1⟩
  icases Hga0 with ⟨Hb0, Hga0⟩
  icases Hga1 with ⟨Hb1, Hga1⟩
  unfold prog
  -- the signals
  iapply (wp_sigs (cont I) Kn c (Ors' c) up) $$ [HO HtB Hst0 Hga0 Hst1 Hga1]
  · isplitr; · iexact HR
    isplitl [HO]; · iexact HO
    rw [← up_eq, ← pay_all]
    isplitl [HtB]; · iexact HtB
    isplitl [Hst0 Hga0]
    · isplitl [Hst0] <;> iassumption
    · isplitl [Hst1] <;> iassumption
  iintro HO
  -- the loads
  iapply (wp_load_owns (c : Thread nD τ) fullShare 𝒱₀ none Set.univ xM (I c).x) $$ Hx
  iintro Hx
  rw [show (fun j => (I c).x ((Rect.unit ![0, 0] S1024x256.size Gen.inb_S1024x256_S1024x256_0_0).emb j)) = (I c).x from
    funext fun j => congrArg _ (emb_full (sh := S1024x256) zero2 _ j)]
  iapply (wp_load_owns (c : Thread nD τ) fullShare 𝒱₀ none Set.univ rwM (I c).rw) $$ Hrw
  iintro Hrw
  rw [show (fun j => (I c).rw ((Rect.unit ![0, 0] S256x32.size Gen.inb_S256x32_S256x32_0_0).emb j)) = (I c).rw from
    funext fun j => congrArg _ (emb_full (sh := S256x32) zero2 _ j)]
  iapply (wp_load_owns (c : Thread nD τ) fullShare 𝒱₀ none Set.univ ixM (I c).ix) $$ Hix
  iintro Hix
  rw [show (fun j => (I c).ix ((Rect.unit ![0, 0] S1024x1.size Gen.inb_S1024x1_S1024x1_0_0).emb j)) = (I c).ix from
    funext fun j => congrArg _ (emb_full (sh := S1024x1) zero2 _ j)]
  iapply (wp_load_owns (c : Thread nD τ) fullShare 𝒱₀ none Set.univ ewM (I c).ew) $$ Hew
  iintro Hew
  iapply (wp_load_owns (c : Thread nD τ) fullShare 𝒱₀ none Set.univ ewM (I c).ew) $$ Hew
  iintro Hew
  iapply (wp_load_owns (c : Thread nD τ) fullShare 𝒱₀ none Set.univ ewM (I c).ew) $$ Hew
  iintro Hew
  iapply (wp_load_owns (c : Thread nD τ) fullShare 𝒱₀ none Set.univ ewM (I c).ew) $$ Hew
  iintro Hew
  -- the barrier
  iapply (wp_barrier (cont I) Kn c (Ors' c) (above_Ors' c)) $$ [HO HcB HaB]
  · isplitr; · iexact HR
    isplitl [HO]; · iexact HO
    isplitl [HcB] <;> iassumption
  iintro HO HzB Hbar
  ihave Hbar := (Entails.of_eq (bar_all (F := F) c)) $$ Hbar
  icases Hbar with ⟨⟨Hp0, Hq0⟩, Hp1, Hq1⟩
  -- the two scatters
  iapply (wp_scatter (cont I) Kn c 0 (Ors c)) $$ [HO Hsb0 Hp0 Hrs0]
  · isplitr; · iexact HR
    isplitl [HO]; · iexact HO
    isplitl [Hsb0]; · iexact Hsb0
    isplitl [Hp0] <;> iassumption
  iintro HO HcS0 Hch0
  iapply (wp_scatter (cont I) Kn c 1 (Oag' c)) $$ [HO Hsb1 Hp1 Hrs1]
  · isplitr; · iexact HR
    isplitl [HO]; · iexact HO
    isplitl [Hsb1]; · iexact Hsb1
    isplitl [Hp1] <;> iassumption
  iintro HO HcS1 Hch1
  iapply (wp_load_owns (c : Thread nD τ) fullShare 𝒱₀ none Set.univ ixM (I c).ix) $$ Hix
  iintro Hix
  -- first half: reduce and gather
  iapply (wp_reduce (cont I) Kn c 0 (Oag' c) (above_Oag' c) (backOf I c) _ (cont_blk I 0 c)) $$ [HO Hch0 Hz0 Hb0 HwR0]
  · isplitr; · iexact HR
    isplitl [HO]; · iexact HO
    isplitl [Hch0]; · iexact Hch0
    isplitl [Hz0]; · iexact Hz0
    isplitl [Hb0] <;> iassumption
  iintro HO Hch0 Hst0 Hb0 HzR0
  iapply (wp_gather (cont I) Kn c 0 (Oag c)) $$ [HO Hb0 Hq0 Hag0]
  · isplitr; · iexact HR
    isplitl [HO]; · iexact HO
    isplitl [Hb0]; · iexact Hb0
    isplitl [Hq0] <;> iassumption
  iintro HO HcG0
  iapply (wp_shared c (I c).x (I c).sw) $$ [Hsw Hout]
  · isplitl [Hsw] <;> iassumption
  iintro Hsw Hout
  -- second half
  iapply (wp_reduce (cont I) Kn c 1 (Oag c) (above_Oag c) (backOf I c) _ (cont_blk I 1 c)) $$ [HO Hch1 Hz1 Hb1 HwR1]
  · isplitr; · iexact HR
    isplitl [HO]; · iexact HO
    isplitl [Hch1]; · iexact Hch1
    isplitl [Hz1]; · iexact Hz1
    isplitl [Hb1] <;> iassumption
  iintro HO Hch1 Hst1 Hb1 HzR1
  iapply (wp_gather (cont I) Kn c 1 0) $$ [HO Hb1 Hq1 Hag1]
  · isplitr; · iexact HR
    isplitl [HO]; · rw [zero_add]; iexact HO
    isplitl [Hb1]; · iexact Hb1
    isplitl [Hq1] <;> iassumption
  iintro HO HcG1
  -- the output
  iapply (wp_ownAdd c 0 _ _) $$ Hout
  iintro Hout
  iapply (wp_ownAdd c 1 _ _) $$ Hout
  iintro Hout
  ihave HwA0 := (Entails.of_eq (take_eq (F := F) (waitIn c (agR 0)))) $$ HwA0
  iapply (wp_agSteps (cont I) Kn c 0 take (outO I c)) $$ [HO Hout HwA0]
  · isplitr; · iexact HR
    isplitl [HO]; · iexact HO
    isplitl [Hout]; · iexact Hout
    iexact HwA0
  iintro HO Hout HwA0
  ihave HwA1 := (Entails.of_eq (take_eq (F := F) (waitIn c (agR 1)))) $$ HwA1
  iapply (wp_agSteps (cont I) Kn c 1 take (updated (cont I) c 0 take (outO I c))) $$ [HO Hout HwA1]
  · isplitr; · iexact HR
    isplitl [HO]; · iexact HO
    isplitl [Hout] <;> iassumption
  iintro HO Hout HwA1
  -- the sends are done
  ihave HwS := (wait_two c (rsS 0) (rsS 1)) $$ [HcS0 HaS0 HcS1 HaS1]
  · isplitl [HcS0]; · iexact HcS0
    isplitl [HaS0]; · iexact HaS0
    isplitl [HcS1] <;> iassumption
  iapply (wp_rsDones (cont I) Kn c up) $$ [HO HwS]
  · isplitr; · iexact HR
    isplitl [HO] <;> iassumption
  iintro HO HwS
  ihave HwG := (wait_two c (agS 0) (agS 1)) $$ [HcG0 HaG0 HcG1 HaG1]
  · isplitl [HcG0]; · iexact HcG0
    isplitl [HaG0]; · iexact HaG0
    isplitl [HcG1] <;> iassumption
  iapply (wp_agDones (cont I) Kn c up) $$ [HO HwG]
  · isplitr; · iexact HR
    isplitl [HO] <;> iassumption
  iintro HO HwG
  iapply (wp_done c)
  ihave HwS := (Entails.of_eq (done_two (cont I) c (rsS 0) (rsS 1))) $$ HwS
  ihave HwG := (Entails.of_eq (done_two (cont I) c (agS 0) (agS 1))) $$ HwG
  have eA : ∀ h, (bigSepL take (waitOut (cont I) c (agR h)) : sProp 𝕄)
      = iprop((bigSep Finset.univ fun k => semVal (dCell (agR h) k c) 0)
          ∗ bigSep Finset.univ fun k => ownsTc c (blockM h (peer k c)) fullShare ((cont I).blk h (peer k c))) := fun h => by
    rw [← take_eq]; unfold waitOut; simp only [bigSep_sep', dmaPay_agR]
  ihave HwA0 := (Entails.of_eq (eA 0)) $$ HwA0
  ihave HwA1 := (Entails.of_eq (eA 1)) $$ HwA1
  icases HwS with ⟨⟨HzS0, HpS0⟩, HzS1, HpS1⟩
  icases HwG with ⟨⟨HzG0, HpG0⟩, HzG1, HpG1⟩
  icases HwA0 with ⟨HzA0, HpA0⟩
  icases HwA1 with ⟨HzA1, HpA1⟩
  have eS : ∀ h, (bigSep Finset.univ (dmaPay (cont I) c (rsS h)) : sProp 𝕄)
      = bigSep Finset.univ fun k => ownsTc c (chunkM h (peer k c)) fullShare ((cont I).chunk h c (peer k c)) := fun h =>
    bigSep_congr fun k _ => dmaPay_rsS (cont I) c h k
  have eG : ∀ h, (bigSep Finset.univ (dmaPay (cont I) c (agS h)) : sProp 𝕄) = ownsTc c (blockM h c) fullShare ((cont I).blk h c) := fun h => by
    rw [block_deal]; exact bigSep_congr fun k _ => dmaPay_agS (cont I) c h k
  ihave HpS0 := (Entails.of_eq (eS 0)) $$ HpS0
  ihave HpS1 := (Entails.of_eq (eS 1)) $$ HpS1
  ihave HpG0 := (Entails.of_eq (eG 0)) $$ HpG0
  ihave HpG1 := (Entails.of_eq (eG 1)) $$ HpG1
  iapply Hk $$ HO [HzB HzS0 HzS1 HzR0 HzR1 HzG0 HzG1 HzA0 HzA1] [Hch0 HpS0 Hst0 HpG0 HpA0 Hch1 HpS1 Hst1 HpG1 HpA1] [Hx Hrw Hix Hew Hsw]
  · unfold zeros
    rw [zeros_eq]
    isplitl [HzB]; · iexact HzB
    isplitl [HzS0]; · iexact HzS0
    isplitl [HzR0]; · iexact HzR0
    isplitl [HzS1]; · iexact HzS1
    isplitl [HzR1]; · iexact HzR1
    isplitl [HzG0]; · iexact HzG0
    isplitl [HzA0]; · iexact HzA0
    isplitl [HzG1]; · iexact HzG1
    iexact HzA1
  · isplitl [Hch0 HpS0 Hst0 HpG0 HpA0]
    · isplitl [Hch0 HpS0]
      · iexists (cont I).sb 0 c
        iapply (sb_join (cont I) c 0)
        isplitl [Hch0] <;> iassumption
      isplitl [Hst0]; · iexact Hst0
      iexists (cont I).gat 0
      iapply (ga_join (cont I) c 0)
      isplitl [HpG0] <;> iassumption
    · isplitl [Hch1 HpS1]
      · iexists (cont I).sb 1 c
        iapply (sb_join (cont I) c 1)
        isplitl [Hch1] <;> iassumption
      isplitl [Hst1]; · iexact Hst1
      iexists (cont I).gat 1
      iapply (ga_join (cont I) c 1)
      isplitl [HpG1] <;> iassumption
  · isplitl [Hx]; · iexact Hx
    isplitl [Hrw]; · iexact Hrw
    isplitl [Hix]; · iexact Hix
    isplitl [Hew] <;> iassumption
  · iexact Hout

end Cert.Moe
-- ==== Proof.Launch.lean ====
/-
# The launch

From any memory with every counter at zero, the eight devices' runs end with every counter at zero, the operands as they were
and the result array of device `c` reading `outV` of the operands. The protocol's cells are funded at launch, each device keeps
its own cells' positions, and the duty tokens go to the device that pays the duty.
-/
module

public import proofs.«01_k».proof.Proof.Body
public import proofs.«01_k».proof.Proof.Gen.KernelIdeal.Launch
public import proofs.«01_k».proof.Proof.Gen.KernelIdeal.Points
public import Idealize.ShloMosaic.Lib.Pipeline.Value
public import Idealize.ShloMosaic.Lib.Pipeline.ValueKit
public import Idealize.ShloMosaic.Lib.Pipeline.CollectiveSegs
public import Idealize.ShloMosaic.Lib.Quiescent

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- The operands device `c` holds. -/
def inp (c : Dev nD) : Inp F where
  x := m ((c : Thread nD τ).loc main_arg0)
  rw := m ((c : Thread nD τ).loc main_arg1)
  ix := m ((c : Thread nD τ).loc main_arg2)
  ew := m ((c : Thread nD τ).loc main_arg3)
  sw := m ((c : Thread nD τ).loc main_arg4)

/-- What device `c`'s body starts from, and what it ends with besides its windows. -/
def start (c : Dev nD) : sProp 𝕄 := iprop(∃ Kn, recs (cont (inp m)) Kn ∗ mine c)
def phi0 (c : Dev nD) : sProp 𝕄 := iprop(start m c ∗ scratch c)
def phi1 (c : Dev nD) : sProp 𝕄 := iprop(zeros c ∗ scratch c)

def dats (_ : Fin 1) (c : Dev nD) : Dat τ (Elt F) Unit ℕ UU ℕ cfg0 c where
  A w := m ((cfg0.win w).arr.view.loc (c : Thread nD τ))
  after w _ := match w with
    | ⟨0, _⟩ => (inp m c).x
    | ⟨1, _⟩ => (inp m c).rw
    | ⟨2, _⟩ => (inp m c).ix
    | ⟨3, _⟩ => (inp m c).ew
    | ⟨4, _⟩ => (inp m c).sw
    | ⟨5, _⟩ => outV (inp m) c
  Φ t := match t with
    | ⟨0, _⟩ => phi0 m c
    | ⟨_ + 1, _⟩ => phi1 c
  q _ := fullShare
  owed t := match t with
    | ⟨0, _⟩ => O₀ c
    | ⟨_ + 1, _⟩ => 0

section Before
variable (c : Dev nD)

/-- The tokens' staging buffer reads the tokens. -/
theorem before_x (d) : (dats m 0 c).before (0 : Fin 6) t0_0 d = (inp m c).x := by
  unfold Dat.before; rw [if_pos (fetch0_0 t0_0)]; funext j
  exact congrArg (m ((c : Thread nD τ).loc main_arg0)) (funext fun a => Fin.ext (by fin_cases a <;> simp <;> rfl))
/-- The router's staging buffer reads the router. -/
theorem before_rw (d) : (dats m 0 c).before (1 : Fin 6) t0_0 d = (inp m c).rw := by
  unfold Dat.before; rw [if_pos (fetch0_1 t0_0)]; funext j
  exact congrArg (m ((c : Thread nD τ).loc main_arg1)) (funext fun a => Fin.ext (by fin_cases a <;> simp <;> rfl))
/-- The indices' staging buffer reads the indices. -/
theorem before_ix (d) : (dats m 0 c).before (2 : Fin 6) t0_0 d = (inp m c).ix := by
  unfold Dat.before; rw [if_pos (fetch0_2 t0_0)]; funext j
  exact congrArg (m ((c : Thread nD τ).loc main_arg2)) (funext fun a => Fin.ext (by fin_cases a <;> simp <;> rfl))
/-- The expert weights' staging buffer reads the expert weights. -/
theorem before_ew (d) : (dats m 0 c).before (3 : Fin 6) t0_0 d = (inp m c).ew := by
  unfold Dat.before; rw [if_pos (fetch0_3 t0_0)]; funext j
  exact congrArg (m ((c : Thread nD τ).loc main_arg3)) (funext fun a => Fin.ext (by fin_cases a <;> simp <;> rfl))
/-- The shared weights' staging buffer reads the shared weights. -/
theorem before_sw (d) : (dats m 0 c).before (4 : Fin 6) t0_0 d = (inp m c).sw := by
  unfold Dat.before; rw [if_pos (fetch0_4 t0_0)]; funext j
  exact congrArg (m ((c : Thread nD τ).loc main_arg4)) (funext fun a => Fin.ext (by fin_cases a <;> simp <;> rfl))

attribute [local irreducible] outV

/-- The result array after the run reads what the body leaves. -/
theorem final_out : (dats m 0 c).arrAt (5 : Fin 6) cfg0.N = outV (inp m) c :=
  (dats m 0 c).arrAt_eq_of_after_last (5 : Fin 6) t0_0 (by decide +kernel) (outV (inp m) c) (fun j => rfl)
end Before

/-- A staging buffer's owned contents, at some contents equal to `Y`. -/
theorem stage_at {sp : Space} {sh : Shape} {e : EltTy} (c : Dev nD) (M : Memref sig .tc sp sh e) {D : Type} (X : D → sh.Idx → Elt F e)
    (Y : sh.Idx → Elt F e) (h : ∀ d, X d = Y) : (iprop(∃ d, ownsTc c M fullShare (X d)) : sProp 𝕄) ⊢ ownsTc c M fullShare Y := by
  iintro ⟨%d, H⟩; rw [h d]; iexact H

def wins (c : Dev nD) : sProp 𝕄 :=
  iprop((∃ d, ownsTc c xM fullShare ((dats m 0 c).before (0 : Fin 6) t0_0 d))
    ∗ (∃ d, ownsTc c rwM fullShare ((dats m 0 c).before (1 : Fin 6) t0_0 d))
    ∗ (∃ d, ownsTc c ixM fullShare ((dats m 0 c).before (2 : Fin 6) t0_0 d))
    ∗ (∃ d, ownsTc c ewM fullShare ((dats m 0 c).before (3 : Fin 6) t0_0 d))
    ∗ (∃ d, ownsTc c swM fullShare ((dats m 0 c).before (4 : Fin 6) t0_0 d))
    ∗ (∃ d, ownsTc c outM fullShare ((dats m 0 c).before (5 : Fin 6) t0_0 d)))
def winsAfter (c : Dev nD) : sProp 𝕄 :=
  iprop(ownsTc c xM fullShare (inp m c).x ∗ ownsTc c rwM fullShare (inp m c).rw ∗ ownsTc c ixM fullShare (inp m c).ix
    ∗ ownsTc c ewM fullShare (inp m c).ew ∗ ownsTc c swM fullShare (inp m c).sw ∗ ownsTc c outM fullShare (outV (inp m) c))

attribute [local irreducible] outV cc0_body prog

set_option maxHeartbeats 1000000 in
set_option maxRecDepth 65536 in
/-- The body, from what the launch hands it. -/
theorem body_obligation (c : Dev nD) : BodyObligation (dats (F := F) m 0 c) (defs₀ (F := F)) 𝒱₀ () Set.univ := fun t => by
  rw [fin_N0 t]
  rw [bigSep_W0, bigSep_W0]
  show iprop(phi0 m c ∗ (dats m 0 c).owesAt () t0_0.castSucc ∗ wins m c)
    ⊢ wp frame (wpE (defs₀ (F := F)) 𝒱₀ c none) Set.univ
      (cc0_body (F := F) xM (Memref.isWhole_whole _) rwM (Memref.isWhole_whole _) ixM (Memref.isWhole_whole _) ewM (Memref.isWhole_whole _)
        swM (Memref.isWhole_whole _) outM (Memref.isWhole_whole _) (Memref.whole cc0_scratch0) (Memref.isWhole_whole _)
        (Memref.whole cc0_scratch1) (Memref.isWhole_whole _) (Memref.whole cc0_scratch2) (Memref.isWhole_whole _)
        (Memref.whole cc0_scratch3) (Memref.isWhole_whole _) (Memref.whole cc0_scratch4) (Memref.isWhole_whole _)
        (Memref.whole cc0_scratch5) (Memref.isWhole_whole _) cc0_scratch6 cc0_scratch7 cc0_scratch8 cc0_scratch9 cc0_scratch10
        cc0_scratch11 cc0_scratch12 cc0_scratch13)
      (fun _ => iprop(phi1 c ∗ (dats m 0 c).owesAt () t0_0.succ ∗ winsAfter m c))
  rw [body_eq, wp_deviceId]
  unfold wins phi0 start
  iintro ⟨⟨⟨%Kn, HR, Hm⟩, Hs⟩, Ho, Hx, Hrw, Hix, Hew, Hsw, ⟨%d, Hout⟩⟩
  ihave Hx := (stage_at c xM _ _ (before_x m c)) $$ Hx
  ihave Hrw := (stage_at c rwM _ _ (before_rw m c)) $$ Hrw
  ihave Hix := (stage_at c ixM _ _ (before_ix m c)) $$ Hix
  ihave Hew := (stage_at c ewM _ _ (before_ew m c)) $$ Hew
  ihave Hsw := (stage_at c swM _ _ (before_sw m c)) $$ Hsw
  unfold Dat.owesAt Pipeline.owesWithin
  icases Ho with ⟨%W, %hW, HO⟩
  iapply (wp_prog (inp m) Kn c) $$ [HR Hm Hs HO Hx Hrw Hix Hew Hsw Hout]
  · isplitl [HR]; · iexact HR
    isplitl [HO]; · unfold due; iexists W; iexact HO
    isplitl [Hm]; · iexact Hm
    isplitl [Hs]; · iexact Hs
    isplitr [Hout]
    · unfold inputs
      isplitl [Hx]; · iexact Hx
      isplitl [Hrw]; · iexact Hrw
      isplitl [Hix]; · iexact Hix
      isplitl [Hew]; · iexact Hew
      iexact Hsw
    · unfold has; iexists _; iexact Hout
  iintro HO Hz Hs Hi Hout
  unfold inputs winsAfter phi1
  icases Hi with ⟨Hx, Hrw, Hix, Hew, Hsw⟩
  unfold due
  icases HO with ⟨%W', HO⟩
  isplitl [Hz Hs]
  · isplitl [Hz]; · iexact Hz
    iexact Hs
  isplitl [HO]
  · iexists W'
    isplitr; · (ipureintro; exact fun _ _ => Or.inl trivial)
    iexact HO
  isplitl [Hx]; · iexact Hx
  isplitl [Hrw]; · iexact Hrw
  isplitl [Hix]; · iexact Hix
  isplitl [Hew]; · iexact Hew
  isplitl [Hsw]; · iexact Hsw
  iexact Hout

/-! ## The cells, the tokens and what the launch deals -/

/-- The kernel's own semaphores. -/
def osem (i : Fin 8 × Fin 7) : SemLoc sig := .dma (dsem i.1 i.2)
/-- The exchange's DMA semaphores meet the launch's conditions on a kernel's own semaphores. -/
theorem ownSemFacts : Pipeline.OwnSemFacts cfg0.spec osem := by decide +kernel

/-- Every window is held at the full share. -/
theorem share_eq (c : Dev nD) (w : Fin cfg0.W) : (dats m 0 c).share w = fullShare := by unfold Dat.share; split <;> rfl

/-- Two exchange semaphores, as locations, are the same only if their arrays and their steps are. -/
theorem dma_inj {a a' : Fin 8} {k k' : Fin 7} (h : SemLoc.dma (dsem a k) = (SemLoc.dma (dsem a' k') : SemLoc sig)) : a = a' ∧ k = k' :=
  dsem_inj (by injection h)

/-- Different devices or cell names have different cells. -/
theorem cellAt_injective : Function.Injective cellAt := by
  rintro ⟨c, i⟩ ⟨c', i'⟩ h
  have h1 : c = c' := by
    have := congrArg (fun g : GSem nD τ sig => g.1.1) h
    rcases i with _ | ⟨a, k⟩ <;> rcases i' with _ | ⟨a', k'⟩ <;> exact this
  subst h1
  rcases i with _ | ⟨a, k⟩ <;> rcases i' with _ | ⟨a', k'⟩
  · rfl
  · exact absurd (congrArg Prod.snd h) (by intro h'; cases h')
  · exact absurd (congrArg Prod.snd h) (by intro h'; cases h')
  · obtain ⟨rfl, rfl⟩ := dma_inj (congrArg Prod.snd h); rfl
def xCells : Finset (GSem nD τ sig) := Finset.univ.map ⟨cellAt, cellAt_injective⟩

/-- A device's own cells' duties: its barrier's seven, one per step; each DMA cell's one. -/
def tokAt : Dev nD × Option (Fin 8) × Fin 7 → GSem nD τ sig × ℕ × Fin 7
  | (c, none, k) => (barCell c, 0, k)
  | (c, some a, k) => (dCell a k c, 0, 0)
/-- Different names of duties have different duties. -/
theorem tokAt_injective : Function.Injective tokAt := by
  rintro ⟨c, o, k⟩ ⟨c', o', k'⟩ h
  have h1 : c = c' := by
    have := congrArg (fun x : GSem nD τ sig × ℕ × Fin 7 => x.1.1.1) h
    rcases o with _ | a <;> rcases o' with _ | a' <;> exact this
  subst h1
  have h2 := congrArg (fun x : GSem nD τ sig × ℕ × Fin 7 => x.1.2) h
  rcases o with _ | a <;> rcases o' with _ | a'
  · have h3 : k = k' := congrArg (fun x : GSem nD τ sig × ℕ × Fin 7 => x.2.2) h
    rw [h3]
  · exact absurd h2 (by intro h'; cases h')
  · exact absurd h2 (by intro h'; cases h')
  · obtain ⟨rfl, rfl⟩ := dma_inj h2; rfl
def xToks : Finset (GSem nD τ sig × ℕ × Fin 7) := Finset.univ.map ⟨tokAt, tokAt_injective⟩

def u₀ : UU := (initOf (Pipeline.cells cfgs cellOf_inj) (Pipeline.launchToks cfgs cellOf_inj), initOf xCells xToks)

/-- One conjunct for `none` and the others. -/
theorem bigSep_opt {α : Type} [Fintype α] [DecidableEq α] (Φ : Option α → sProp 𝕄) :
    bigSep Finset.univ Φ = iprop(Φ none ∗ bigSep Finset.univ fun a => Φ (some a)) := by
  have e : (Finset.univ : Finset (Option α)).erase none = Finset.univ.map Function.Embedding.some := by
    ext o; cases o <;> simp
  rw [bigSep_univ_at _ none, e, bigSep_map]; rfl

/-- Something for each of a device's cells: for the barrier, and for every semaphore of every array. -/
theorem bigSep_cells (Φ : CI → sProp 𝕄) :
    bigSep Finset.univ Φ = iprop(Φ none ∗ bigSep Finset.univ fun a => bigSep Finset.univ fun k => Φ (some (a, k))) := by
  rw [bigSep_opt, bigSep_univ_prod]

def toks (c : Dev nD) : sProp 𝕄 :=
  iprop((bigSep Finset.univ fun k => dutyTok ER (barCell c) 0 k)
    ∗ bigSep Finset.univ fun a : Fin 8 => bigSep Finset.univ fun k => dutyTok ER (dCell a k c) 0 0)
/-- What the launch element deals device `c`. -/
def G (c : Dev nD) : sProp 𝕄 :=
  iprop((bigSep Finset.univ fun i : CI => roundState ER (Rd (cont (inp m))) (cellAt (c, i)) 0)
    ∗ (bigSep Finset.univ fun i : CI => iprop(atPos ER (cellAt (c, i)) 0 ∅ 0 ∗ reached ER (cellAt (c, i)) 0)) ∗ toks c)

/-- The exchange's launch element gives every device what the launch deals it. -/
theorem fund : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun i : CI => Φ (cellAt (c, i)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_prod, bigSep_opt]; rfl
  iintro HX
  imod (Rounds.fund ER (Rd (cont (inp m))) xCells xToks) $$ HX with ⟨Hst, Hr, Hat, Htok⟩
  imodintro
  ihave Hst := (Entails.of_eq (hX fun g => roundState ER (Rd (cont (inp m))) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The counters -/

/-- The kernel's own semaphores at zero are the semaphores of all eight arrays at zero. -/
theorem ownSems0_eq (c : Dev nD) : (Pipeline.ownSems0 (Ix := Unit) (Name := ℕ) (U := UU) (Lvl := ℕ) (Val := Elt F) (τ := τ) osem c : sProp 𝕄)
    = bigSep Finset.univ fun a : Fin 8 => bigSep Finset.univ fun k => semVal (dCell a k c) 0 := by
  unfold Pipeline.ownSems0; rw [bigSep_univ_prod]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The barrier semaphore and the kernel's own at zero are the counters of all the device's cells at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun i : CI => semVal (cellAt (c, i)) 0 : sProp 𝕄) := by
  rw [ownSems0_eq, unscopedSems0_eq, bigSep_cells]; rfl

/-- From a device's counters at zero and what it is dealt, each of its cells gets an invariant; its positions and tokens remain. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd (cont (inp m))) κ (cellAt (c, i))))
          ∗ (bigSep Finset.univ fun i : CI => iprop(atPos ER (cellAt (c, i)) 0 ∅ 0 ∗ reached ER (cellAt (c, i)) 0)) ∗ toks c) := by
  have e : iprop((bigSep Finset.univ fun i : CI => semVal (cellAt (c, i)) 0) ∗ bigSep Finset.univ fun i : CI => roundState ER (Rd (cont (inp m))) (cellAt (c, i)) 0)
      ⊢ (|={Set.univ}=> bigSep Finset.univ fun i : CI => iprop(∃ κ : ℕ, cellInv ER (Rd (cont (inp m))) κ (cellAt (c, i))) : sProp 𝕄) := by
    rw [← bigSep_sep']
    exact (bigSep_mono fun i _ => (Rounds.body_intro ER (Rd (cont (inp m))) (cellAt (c, i))).trans inv_alloc).trans (bigSep_fupd _ _)
  unfold G
  iintro ⟨Hos, Hus, Hst, Hat, Htok⟩
  ihave Hv := (Entails.of_eq (sems0_eq (F := F) c)) $$ [Hos Hus]
  · isplitl [Hus]; · iexact Hus
    iexact Hos
  imod e $$ [Hv Hst] with Hinv
  · isplitl [Hv]; · iexact Hv
    iexact Hst
  imodintro
  isplitl [Hinv]; · iexact Hinv
  isplitl [Hat]; · iexact Hat
  iexact Htok

/-! ## The tokens go to the devices that pay -/

/-- The device whose cell of array `a` device `c` pays at step `k`: its own of a send array, the partner's of a receive array. -/
def payee (a : Fin 8) (k : Fin 7) (c : Dev nD) : Dev nD := if a.val % 2 = 1 then peer k c else c
def payToks (c : Dev nD) : sProp 𝕄 :=
  iprop((bigSep Finset.univ fun k => dutyTok ER (barCell (peer k c)) 0 k)
    ∗ bigSep Finset.univ fun a : Fin 8 => bigSep Finset.univ fun k => dutyTok ER (dCell a k (payee a k c)) 0 0)

/-- Step by step, every device's own to its partner. -/
theorem across (Φ : Fin 7 → Dev nD → sProp 𝕄) :
    (bigSep Finset.univ fun c : Dev nD => bigSep Finset.univ fun k : Fin 7 => Φ k c)
      = bigSep Finset.univ fun c : Dev nD => bigSep Finset.univ fun k : Fin 7 => Φ k (peer k c) := by
  rw [bigSep_univ_comm, bigSep_univ_comm (fun (c : Dev nD) (k : Fin 7) => Φ k (peer k c))]
  exact bigSep_congr fun k _ => bigSep_univ_equiv (peerEquiv k) _

/-- The tokens of all cells, listed by owner, are the same tokens listed by the device that pays. -/
theorem toks_dealt : (bigSep Finset.univ fun c : Dev nD => (toks c : sProp 𝕄)) = bigSep Finset.univ fun c : Dev nD => payToks c := by
  unfold toks payToks
  have e (a : Fin 8) : (bigSep Finset.univ fun c : Dev nD => bigSep Finset.univ fun k => (dutyTok ER (dCell a k c) 0 0 : sProp 𝕄))
      = bigSep Finset.univ fun c : Dev nD => bigSep Finset.univ fun k => dutyTok ER (dCell a k (payee a k c)) 0 0 := by
    by_cases h : a.val % 2 = 1
    · simp only [payee, if_pos h]; exact across fun k c => dutyTok ER (dCell a k c) 0 0
    · simp only [payee, if_neg h]
  rw [bigSep_sep', bigSep_sep', across fun k c => dutyTok ER (barCell c) 0 k,
    bigSep_univ_comm fun (c : Dev nD) (a : Fin 8) => bigSep Finset.univ fun k => (dutyTok ER (dCell a k c) 0 0 : sProp 𝕄),
    bigSep_univ_comm fun (c : Dev nD) (a : Fin 8) => bigSep Finset.univ fun k => (dutyTok ER (dCell a k (payee a k c)) 0 0 : sProp 𝕄),
    bigSep_congr fun a _ => e a]

/-! ## The launch credit -/

/-- What the devices owe one array's receive cells is, cell by cell, what its owner waits for. -/
theorem creds_owe (a : Fin 8) (c : Dev nD) (ks : List (Fin 7)) :
    (Pipeline.launchCred (fun d => owe a d ks) c : sProp 𝕄) ⊢ bigSepL ks fun k => cred (tallyAt (dCell a k c) () (cr a)) := by
  induction ks with
  | nil => show (Pipeline.launchCred (fun _ => (0 : CellTallies nD τ sig Unit)) c : sProp 𝕄) ⊢ _; rw [Pipeline.launchCred_zero]; exact Entails.of_eq rfl
  | cons k ks ih =>
    show (Pipeline.launchCred (fun d => owe a d ks + tallyAt (dCell a k (peer k d)) () (cr a)) c : sProp 𝕄) ⊢ _
    rw [Pipeline.launchCred_add, lsep_cons]
    iintro ⟨H1, H2⟩
    isplitl [H2]
    · iapply (Pipeline.launchCred_tallyAt (.dma (dsem a k)) (peer k) (peer k) (peer_inv k) (peer_inv k) () (cr a) c); iexact H2
    · iapply ih; iexact H1

/-- The barrier units that the peers of the steps `ks` owe a device are one credit of their number. -/
theorem creds_bar (c : Dev nD) (ks : List (Fin 7)) :
    (Pipeline.launchCred (fun d => oweBar d ks) c : sProp 𝕄) ⊢ cred (tallyAt (barCell c) () ks.length) := by
  induction ks with
  | nil =>
    show (Pipeline.launchCred (fun _ => (0 : CellTallies nD τ sig Unit)) c : sProp 𝕄) ⊢ cred (tallyAt (barCell c) () 0)
    rw [Pipeline.launchCred_zero, tallyAt_zero, cred_zero]
  | cons k ks ih =>
    show (Pipeline.launchCred (fun d => oweBar d ks + tallyAt (barCell (peer k d)) () 1) c : sProp 𝕄) ⊢ cred (tallyAt (barCell c) () (ks.length + 1))
    rw [Pipeline.launchCred_add, ← tallyAt_add]
    iintro ⟨H1, H2⟩
    iapply (cred_add _ _).2
    isplitl [H1]
    · iapply ih; iexact H1
    · iapply (Pipeline.launchCred_tallyAt (.reg barS) (peer k) (peer k) (peer_inv k) (peer_inv k) () 1 c); iexact H2

def recvCreds (c : Dev nD) (h : Fin 2) : sProp 𝕄 :=
  iprop((bigSep Finset.univ fun k => cred (tallyAt (dCell (rsR h) k c) () (cr (rsR h))))
    ∗ bigSep Finset.univ fun k => cred (tallyAt (dCell (agR h) k c) () (cr (agR h))))

/-- What all devices owe at launch gives each device seven barrier credits and the credits of its receive cells. -/
theorem creds (c : Dev nD) :
    (Pipeline.launchCred O₀ c : sProp 𝕄) ⊢ iprop(cred (tallyAt (barCell c) () 7) ∗ recvCreds c 0 ∗ recvCreds c 1) := by
  show (Pipeline.launchCred (fun d => owe 7 d down + owe 5 d down + owe 3 d down + owe 1 d down + oweBar d up) c : sProp 𝕄) ⊢ _
  rw [Pipeline.launchCred_add, Pipeline.launchCred_add, Pipeline.launchCred_add, Pipeline.launchCred_add]
  unfold recvCreds
  simp only [down_eq]
  iintro ⟨⟨⟨⟨H7, H5⟩, H3⟩, H1⟩, HB⟩
  isplitl [HB]; · iapply (creds_bar c up); iexact HB
  isplitl [H1 H5]
  · isplitl [H1]; · iapply (creds_owe 1 c down); iexact H1
    iapply (creds_owe 5 c down); iexact H5
  · isplitl [H3]; · iapply (creds_owe 3 c down); iexact H3
    iapply (creds_owe 7 c down); iexact H7

/-! ## What each device starts from -/

/-- The records of the protocol without the levels. -/
def records (Kn : Dev nD × CI → ℕ) : sProp 𝕄 :=
  iprop((bigSep Finset.univ fun i => cellInv ER (Rd (cont (inp m))) (Kn i) (cellAt i)) ∗ bigSep Finset.univ fun i => reached ER (cellAt i) 0)
instance records_persistent (Kn : Dev nD × CI → ℕ) : BI.Persistent (records m Kn) := by unfold records; infer_instance

/-- What stays with one device: its cells' positions, and the tokens of the duties it pays. -/
def kept (c : Dev nD) : sProp 𝕄 := iprop((bigSep Finset.univ fun i : CI => atPos ER (cellAt (c, i)) 0 ∅ 0) ∗ payToks c)
def G' (c : Dev nD) : sProp 𝕄 := iprop(∃ Kn, records m Kn ∗ kept c)

/-- The records go to every device, beside what each keeps. -/
theorem share_records (Kn : Dev nD × CI → ℕ) :
    iprop(records m Kn ∗ bigSep Finset.univ fun c => kept c) ⊢ bigSep Finset.univ (G' m) := by
  have e (c : Dev nD) : iprop(records m Kn ∗ kept c) ⊢ G' m c := by
    unfold G'; iintro ⟨H1, H2⟩; iexists Kn; isplitl [H1]; · iexact H1
    iexact H2
  exact (sep_mono_left (BI.bigSep_of_persistent Finset.univ (records m Kn))).trans
    (by rw [← bigSep_sep']; exact bigSep_mono fun c _ => e c)

/-- All devices' invariants, positions and tokens, regrouped: each device gets all the records and what it keeps. -/
theorem regroup :
    (bigSep Finset.univ fun c : Dev nD => iprop((bigSep Finset.univ fun i : CI => iprop(∃ κ : ℕ, cellInv ER (Rd (cont (inp m))) κ (cellAt (c, i))))
          ∗ (bigSep Finset.univ fun i : CI => iprop(atPos ER (cellAt (c, i)) 0 ∅ 0 ∗ reached ER (cellAt (c, i)) 0)) ∗ toks c) : sProp 𝕄)
      ⊢ bigSep Finset.univ (G' m) := by
  rw [bigSep_sep', bigSep_sep', ← bigSep_univ_prod (fun i : Dev nD × CI => iprop(∃ κ : ℕ, cellInv ER (Rd (cont (inp m))) κ (cellAt i))),
    bigSep_congr (s := Finset.univ) (fun (c : Dev nD) _ => bigSep_sep' Finset.univ (fun i : CI => (atPos ER (cellAt (c, i)) 0 ∅ 0 : sProp 𝕄)) (fun i => reached ER (cellAt (c, i)) 0)),
    bigSep_sep', ← bigSep_univ_prod (fun i : Dev nD × CI => (reached ER (cellAt i) 0 : sProp 𝕄)), toks_dealt]
  iintro ⟨HI, ⟨Hat, #HR⟩, Htok⟩
  ihave HK := (BI.bigSep_exists_pi Finset.univ (fun (i : Dev nD × CI) (κ : ℕ) => (cellInv ER (Rd (cont (inp m))) κ (cellAt i) : sProp 𝕄))) $$ HI
  icases HK with ⟨%Kn, #HI⟩
  iapply (share_records m Kn)
  isplitr
  · unfold records; isplitl; · iexact HI
    iexact HR
  · unfold kept; rw [bigSep_sep']
    isplitl [Hat]; · iexact Hat
    iexact Htok

/-- From all counters at zero and what is dealt, every device gets all the records and what it keeps. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- One conjunct per array of semaphores, listed. -/
theorem bigSep_arrays (Φ : Fin 8 → sProp 𝕄) :
    bigSep Finset.univ Φ = iprop((Φ (rsS 0) ∗ Φ (rsR 0) ∗ Φ (agS 0) ∗ Φ (agR 0)) ∗ Φ (rsS 1) ∗ Φ (rsR 1) ∗ Φ (agS 1) ∗ Φ (agR 1)) := by
  rw [bigSep_univ_eq_bigSepL [rsS 0, rsR 0, agS 0, agR 0, rsS 1, rsR 1, agS 1, agR 1] (by decide) (by decide)]
  refine BI.Entails.antisymm ?_ ?_
  · show iprop(Φ (rsS 0) ∗ Φ (rsR 0) ∗ Φ (agS 0) ∗ Φ (agR 0) ∗ Φ (rsS 1) ∗ Φ (rsR 1) ∗ Φ (agS 1) ∗ Φ (agR 1)) ⊢ _
    iintro ⟨H1, H2, H3, H4, H⟩
    isplitr [H]
    · isplitl [H1]; · iexact H1
      isplitl [H2]; · iexact H2
      isplitl [H3]; · iexact H3
      iexact H4
    · iexact H
  · show _ ⊢ iprop(Φ (rsS 0) ∗ Φ (rsR 0) ∗ Φ (agS 0) ∗ Φ (agR 0) ∗ Φ (rsS 1) ∗ Φ (rsR 1) ∗ Φ (agS 1) ∗ Φ (agR 1))
    iintro ⟨⟨H1, H2, H3, H4⟩, H⟩
    isplitl [H1]; · iexact H1
    isplitl [H2]; · iexact H2
    isplitl [H3]; · iexact H3
    isplitl [H4]; · iexact H4
    iexact H

/-- The receive credits, positions and tokens of one column half are a device's share of that half. -/
theorem mine_half (c : Dev nD) (h : Fin 2) :
    iprop(recvCreds c h
        ∗ ((bigSep Finset.univ fun k => atPos ER (dCell (rsS h) k c) 0 ∅ 0) ∗ (bigSep Finset.univ fun k => atPos ER (dCell (rsR h) k c) 0 ∅ 0)
          ∗ (bigSep Finset.univ fun k => atPos ER (dCell (agS h) k c) 0 ∅ 0) ∗ bigSep Finset.univ fun k => atPos ER (dCell (agR h) k c) 0 ∅ 0)
        ∗ ((bigSep Finset.univ fun k => dutyTok ER (dCell (rsS h) k (payee (rsS h) k c)) 0 0)
          ∗ (bigSep Finset.univ fun k => dutyTok ER (dCell (rsR h) k (payee (rsR h) k c)) 0 0)
          ∗ (bigSep Finset.univ fun k => dutyTok ER (dCell (agS h) k (payee (agS h) k c)) 0 0)
          ∗ bigSep Finset.univ fun k => dutyTok ER (dCell (agR h) k (payee (agR h) k c)) 0 0))
      ⊢ (half c h : sProp 𝕄) := by
  have p1 (k) : payee (rsS h) k c = c := if_neg (by fin_cases h <;> decide)
  have p2 (k) : payee (rsR h) k c = peer k c := if_pos (by fin_cases h <;> decide)
  have p3 (k) : payee (agS h) k c = c := if_neg (by fin_cases h <;> decide)
  have p4 (k) : payee (agR h) k c = peer k c := if_pos (by fin_cases h <;> decide)
  unfold half recvCreds waitIn
  simp only [p1, p2, p3, p4, bigSep_sep']
  iintro ⟨⟨HcR, HcA⟩, ⟨P1, P2, P3, P4⟩, T1, T2, T3, T4⟩
  isplitl [T1 T2]
  · isplitl [T1]; · iexact T1
    iexact T2
  isplitl [T3 T4]
  · isplitl [T3]; · iexact T3
    iexact T4
  isplitl [HcR P2]
  · isplitl [HcR]; · iexact HcR
    iexact P2
  isplitl [HcA P4]
  · isplitl [HcA]; · iexact HcA
    iexact P4
  isplitl [P1]; · iexact P1
  iexact P3

/-- The barrier and receive credits and what a device keeps are its share of the protocol. -/
theorem mine_intro (c : Dev nD) :
    iprop((cred (tallyAt (barCell c) () 7) ∗ recvCreds c 0 ∗ recvCreds c 1) ∗ kept c) ⊢ (mine c : sProp 𝕄) := by
  unfold kept payToks mine
  rw [bigSep_cells, bigSep_arrays, bigSep_arrays]
  iintro ⟨⟨HB, HC0, HC1⟩, ⟨PB, P0, P1⟩, TB, T0, T1⟩
  isplitl [HB]; · iexact HB
  isplitl [PB]; · iexact PB
  isplitl [TB]; · iexact TB
  isplitl [HC0 P0 T0]
  · iapply (mine_half c 0)
    isplitl [HC0]; · iexact HC0
    isplitl [P0]; · iexact P0
    iexact T0
  · iapply (mine_half c 1)
    isplitl [HC1]; · iexact HC1
    isplitl [P1]; · iexact P1
    iexact T1

/-- What the launch hands a device gives what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' records start recs
  iintro ⟨-, Hlev, Hcr, -, ⟨%Kn, ⟨HI, HR⟩, Hk⟩⟩
  ihave Hc := (creds (F := F) c) $$ Hcr
  imodintro
  isplitl
  · iexists Kn
    isplitl [HI HR Hlev]
    · isplitl [HI]; · iexact HI
      isplitl [HR]; · iexact HR
      iexact Hlev
    · iapply (mine_intro c)
      isplitl [Hc]; · iexact Hc
      iexact Hk
  · iempintro

/-! ## Scratch, at the launch and at the exit -/

/-- Holding a whole buffer at some contents is holding its location at some contents. -/
theorem owned_whole (c : Dev nD) (b : Ref sig .tc) :
    (iprop(∃ X, ownsTc c (Memref.whole b) fullShare X) : sProp 𝕄)
      = iprop(∃ f : Buf (Elt F) ((c : Thread nD τ).loc b), ((c : Thread nD τ).loc b) ↦{fullShare} f) :=
  congrArg BI.BIBase.exists (funext fun f => owns_whole (c : Thread nD τ) b fullShare f)

/-- The scratch buffers are the launch's remaining scoped buffers. -/
theorem scratch_rest (c : Dev nD) : (scratch c : sProp 𝕄) ⊣⊢ Pipeline.scopedRest cfg0.spec c := by
  rw [scopedRest0_eq]
  simp only [← owned_whole]
  unfold scratch
  constructor
  · iintro ⟨⟨H0, H2, H4⟩, H1, H3, H5⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    isplitl [H0 H2 H4]
    · isplitl [H0]; · iexact H0
      isplitl [H2]; · iexact H2
      iexact H4
    isplitl [H1]; · iexact H1
    isplitl [H3]; · iexact H3
    iexact H5

/-- The start and the scoped buffers give the body's first state. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phi0 m c from rfl]
  unfold phi0
  iintro ⟨Hs, -, Hr⟩
  isplitl [Hs]; · iexact Hs
  iapply (scratch_rest c).2; iexact Hr

/-- The body's last state gives the counters at zero and the scoped buffers back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = phi1 c from rfl, ownSems0_eq, unscopedSems0_eq]
  unfold phi1 zeros
  iintro ⟨⟨HzB, Hz⟩, Hs⟩
  isplitl [HzB]; · iexact HzB
  isplitl [Hz]; · iexact Hz
  iapply (scratch_rest c).1; iexact Hs

/-- The levels allow the launch's own waits for the windows' copies. -/
theorem waits (c : Dev nD) : (levAts L lv : sProp 𝕄) ⊢ Pipeline.cellsWaits cfgs (dats m) () 0 c :=
  Pipeline.cellsWaits_intro cfgs (dats m) () 0 c fun w s t =>
    mayWait (n := 0) c _ _ (by fin_cases w <;> fin_cases s <;> exact le_of_eq rfl) (by
      rcases t with ⟨_ | _, ht⟩
      · exact above_O₀ c
      · exact Above.zero 0)

/-! ## The run -/

/-- Every operand as it was, the result array reading `outV` of the operands. -/
def Post (r : PUnit × MemSt nD τ sig (Elt F)) : Prop := ∀ c : Dev nD,
  (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.mem ((c : Thread nD τ).loc main_v1) = outV (inp m) c

/-- A final memory whose windows read as the pipeline says satisfies `Post`. -/
theorem post_of (s : MemSt nD τ sig (Elt F)) (h : ∀ c : Dev nD, ∀ w : Fin cfg0.W, s.mem ((cfg0.win w).arr.view.loc (c : Thread nD τ)) = (dats m 0 c).arrAt w cfg0.N) :
    Post m (⟨⟩, s) := fun c =>
  ⟨⟨(h c (0 : Fin 6)).trans ((dats m 0 c).arrAt_in (0 : Fin 6) rfl _), (h c (1 : Fin 6)).trans ((dats m 0 c).arrAt_in (1 : Fin 6) rfl _),
    (h c (2 : Fin 6)).trans ((dats m 0 c).arrAt_in (2 : Fin 6) rfl _), (h c (3 : Fin 6)).trans ((dats m 0 c).arrAt_in (3 : Fin 6) rfl _),
    (h c (4 : Fin 6)).trans ((dats m 0 c).arrAt_in (4 : Fin 6) rfl _)⟩, (h c (5 : Fin 6)).trans (final_out m c)⟩

set_option maxRecDepth 8000 in
/-- From any memory with every counter at zero: every weakly fair execution of the eight devices' programs terminates, every
    operand is as it was, every counter is zero, and each device's result reads `outV` of the operands. -/
theorem run_main : θ_run defs (onTc (τ := τ) (main (F := F))) ⟨m, fun _ => 0, ρ⟩ (fun r => Post m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun s h hs => ⟨post_of m s fun c w => (h c).1 w, sem_eq_zero hs fun c => (h c).2.2⟩)

end Cert.Moe
-- ==== Proof.Frames.lean ====
/- The three frames: the kernel on bits, the kernel on extended reals and the reference on extended reals each
   terminate, leave their arguments as they were, and end with every semaphore counter at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Moe

open Idealize.ShloMosaic Idealize.SL.Sem Cert.Kernel

/-- The two texts' label tables run the same bodies. -/
theorem rows_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext a x
  match a, x with
  | 0, (t, s) => rfl

/-- The two texts' body tables are one table. -/
theorem tables_eq : @Cert.Kernel.defs Bits _ Cert.Kernel.Gen.facts = @Cert.KernelIdeal.defs Bits _ Cert.KernelIdeal.Gen.facts := by
  unfold Cert.Kernel.defs Cert.KernelIdeal.defs
  rw [rows_eq]
  rfl

/-- The kernel on bits: the run is the one proved for the idealised text, which is the same text. -/
theorem frame_kernel : Cert.quiescent_Kernel (hKernel := Cert.Kernel.Gen.facts) := fun m ρ _ => by
  rw [tables_eq]
  exact (θ_run Cert.KernelIdeal.defs _ _).mono (fun _ h => ⟨fun c => (h.1 c).1, h.2⟩) (run_main (F := Bits) m ρ)

/-- The kernel on extended reals. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (run_main (F := Ideal) m ρ)

/-- The reference on extended reals; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Moe

end
-- ==== Proof.Words.lean ====
/-
# Words and bits at the ideal instance

What the kernel's integer words mean: the device a token's expert lives on, the one-bit comparisons as propositions, and the
conversions of small words to extended reals.
-/
module

public import proofs.«01_k».proof.Proof.Body
public import Idealize.ShloMosaic.Lib.Pointwise

@[expose] public section

noncomputable section

namespace Cert.Moe

open Cert.KernelIdeal Cert.KernelIdeal.Gen
open Idealize.ShloMosaic
open Idealize.ShloMosaic.TcCoe

/-- Expert word `w` is one of device `c`'s four experts. -/
def Home (c : Fin 8) (w : BitVec 32) : Prop := w.toInt / 4 = (c.val : ℤ)

instance (c : Fin 8) (w : BitVec 32) : Decidable (Home c w) := inferInstanceAs (Decidable (_ = _))

/-- A word is home on at most one device. -/
theorem Home.unique {c d : Fin 8} {w : BitVec 32} (hc : Home c w) (hd : Home d w) : c = d := by
  unfold Home at hc hd
  exact Fin.ext (by omega)

/-- A one-bit word that says whether `p` holds. -/
abbrev bit (p : Prop) [Decidable p] : BitVec 1 := BitVec.ofBool (decide p)

/-- Bits of equivalent propositions are equal. -/
theorem bit_congr {p q : Prop} [Decidable p] [Decidable q] (h : p ↔ q) : bit p = bit q := by
  unfold bit; rw [decide_eq_decide.mpr h]

/-- Selecting by a bit is a case distinction. -/
theorem select_bit {α : Type} (p : Prop) [Decidable p] (a b : α) : Scalar.select (bit p) a b = if p then a else b := by
  by_cases h : p <;> simp [bit, h, Scalar.select]

/-- The conjunction of the bits of two propositions is the bit of their conjunction. -/
theorem andi_bit (p q : Prop) [Decidable p] [Decidable q] : IntOp.andi (bit p) (bit q) = bit (p ∧ q) := by
  by_cases h : p <;> by_cases h' : q <;> simp [bit, h, h', IntOp.andi]

/-- Comparing two words for equality gives the bit that says whether they are equal. -/
theorem eq_bit (x y : BitVec 32) : IntOp.cmpi .eq x y = bit (x = y) := by
  rw [IntOp.cmpi, bit]; exact congrArg BitVec.ofBool (by rw [Bool.eq_iff_iff]; simp)
/-- Comparing two words for inequality gives the bit that says whether they differ. -/
theorem ne_bit (x y : BitVec 32) : IntOp.cmpi .ne x y = bit (x ≠ y) := by
  rw [IntOp.cmpi, bit]; exact congrArg BitVec.ofBool (by rw [Bool.eq_iff_iff]; simp)
/-- The signed comparison "less" gives the bit that says whether the first signed value is less than the second. -/
theorem slt_bit (x y : BitVec 32) : IntOp.cmpi .slt x y = bit (x.toInt < y.toInt) := by
  simp only [IntOp.cmpi, bit, BitVec.slt_eq_decide]
/-- The signed comparison "greater" gives the bit that says whether the second signed value is less than the first. -/
theorem sgt_bit (x y : BitVec 32) : IntOp.cmpi .sgt x y = bit (y.toInt < x.toInt) := by
  simp only [IntOp.cmpi, bit, BitVec.slt_eq_decide]
/-- The signed comparison "at least" gives the bit that says whether the second signed value is at most the first. -/
theorem sge_bit (x y : BitVec 32) : IntOp.cmpi .sge x y = bit (y.toInt ≤ x.toInt) := by
  simp only [IntOp.cmpi, bit, BitVec.sle_eq_decide]

/-- A bit widened to a word and read as a number is 1 or 0. -/
theorem sitofp_bit (p : Prop) [Decidable p] :
    (FloatOps.sitofp FTy.f32 (BitVec.setWidth 32 (bit p)) : Ideal .f32) = (if p then (1 : EReal) else 0) := by
  show (((BitVec.setWidth 32 (bit p)).toInt : ℝ) : EReal) = _
  by_cases h : p <;> simp [bit, h]

/-- The word of a small natural number, as an integer and as an extended real. -/
theorem toInt_ofNat_small {n : ℕ} (h : n < 2 ^ 31) : (BitVec.ofNat 32 n).toInt = (n : ℤ) := by
  rw [BitVec.toInt_eq_toNat_cond]; simp only [BitVec.toNat_ofNat]; omega

/-- The word of a natural number below `2 ^ 31`, converted to a float, is that number. -/
theorem sitofp_small {n : ℕ} (h : n < 2 ^ 31) : (FloatOps.sitofp FTy.f32 (BitVec.ofNat 32 n) : Ideal .f32) = ((n : ℕ) : EReal) := by
  show (((BitVec.ofNat 32 n).toInt : ℝ) : EReal) = _
  rw [toInt_ofNat_small h]; simp

/-- The sum of the words of two natural numbers is the word of their sum. -/
theorem addi_ofNat (a b : ℕ) : IntOp.addi (BitVec.ofNat 32 a) (BitVec.ofNat 32 b) = BitVec.ofNat 32 (a + b) := by
  simp [IntOp.addi, BitVec.ofNat_add]

/-- The signed value of the word that holds a device's number is that number. -/
theorem me_toInt (c : Dev nD) : (me c).toInt = (c.val : ℤ) := by revert c; decide
/-- The word that holds a device's number is the word of that number. -/
theorem me_eq (c : Dev nD) : me c = BitVec.ofNat 32 c.val := by revert c; decide

/-- The number of the device's `j`-th expert, as the program computes it. -/
abbrev expW (c : Dev nD) (j : Fin 4) : BitVec 32 := Scalar.addi (Scalar.muli (me c) 4#32) (BitVec.ofNat 32 j.val)

/-- The number of a device's `j`-th expert is the word of four times the device's number plus `j`. -/
theorem expW_eq : ∀ (c : Dev nD) (j : Fin 4), expW c j = BitVec.ofNat 32 (4 * c.val + j.val) := by decide
/-- Its signed value is four times the device's number plus `j`. -/
theorem expW_toInt (c : Dev nD) (j : Fin 4) : (expW c j).toInt = 4 * (c.val : ℤ) + j.val := by
  rw [expW_eq, toInt_ofNat_small (by have := (show c.val < 8 from c.isLt); have := j.isLt; omega)]; push_cast; rfl

/-- Two words have the same signed value exactly when they are equal. -/
theorem toInt_inj {x y : BitVec 32} : x.toInt = y.toInt ↔ x = y := BitVec.toInt_inj

/-- The two comparisons that say a token is the device's. -/
theorem home_bit (c : Dev nD) (w : BitVec 32) :
    IntOp.andi (IntOp.cmpi .sge w (Scalar.muli (me c) 4#32)) (IntOp.cmpi .slt w (Scalar.muli (Scalar.addi (me c) 1#32) 4#32))
      = bit (Home c w) := by
  have h0 : ∀ c : Dev nD, (Scalar.muli (me c) 4#32).toInt = 4 * (c.val : ℤ) := by decide
  have h1 : ∀ c : Dev nD, (Scalar.muli (Scalar.addi (me c) 1#32) 4#32).toInt = 4 * (c.val : ℤ) + 4 := by decide
  rw [sge_bit, slt_bit, andi_bit]
  refine bit_congr ?_
  rw [h0, h1]; unfold Home; omega

/-- A home word is one of the device's four experts' numbers. -/
theorem Home.exp {c : Dev nD} {w : BitVec 32} (h : Home c w) : ∃ j : Fin 4, w = expW c j := by
  unfold Home at h
  refine ⟨⟨(w.toInt - 4 * c.val).toNat, by omega⟩, ?_⟩
  rw [← toInt_inj, expW_toInt]; simp only; omega

/-- The number of a device's own expert is at home on that device. -/
theorem home_exp (c : Dev nD) (j : Fin 4) : Home c (expW c j) := by
  unfold Home; rw [expW_toInt]; have := j.isLt; omega

/-- A device's four experts have different numbers. -/
theorem expW_inj {c : Dev nD} {i j : Fin 4} (h : expW c i = expW c j) : i = j := by
  have := congrArg BitVec.toInt h
  rw [expW_toInt, expW_toInt] at this
  exact Fin.ext (by omega)

/-- A sum of ones and zeros counts. -/
theorem sum_count {α : Type} [Fintype α] (p : α → Prop) [DecidablePred p] :
    ∑ i, (if p i then (1 : EReal) else 0) = (((Finset.univ.filter p).card : ℕ) : EReal) := by
  rw [← Finset.sum_filter, Finset.sum_const, nsmul_one]

/-- A sum with one term that is not zero is that term. -/
theorem sum_one {α : Type} [Fintype α] [DecidableEq α] {f : α → EReal} (a : α) (h : ∀ i, i ≠ a → f i = 0) : ∑ i, f i = f a :=
  Finset.sum_eq_single a (fun i _ hi => h i hi) fun h => absurd (Finset.mem_univ a) h

end Cert.Moe
-- ==== Proof.Rank.lean ====
/-
# The compaction's ranks and selectors

Within a block of 128 tokens a device numbers its own tokens 1, 2, 3, … in order. The kernel computes these ranks as a product
with a lower-triangular matrix; the selector of a block puts the token of rank `r + 1` at row `r`.
-/
module

public import proofs.«01_k».proof.Proof.Words

@[expose] public section

set_option maxRecDepth 16384

noncomputable section

namespace Cert.Moe

open Cert.KernelIdeal Cert.KernelIdeal.Gen
open Idealize.ShloMosaic
open Idealize.ShloMosaic.TcCoe

/-- Token `i` of block `b`. -/
def tok (b : Fin 8) (i : Fin 128) : Fin 1024 := ⟨128 * b.val + i.val, by omega⟩

/-- The expert word of a token. -/
abbrev wordAt (ix : Vec Ideal S1024x1 .i32) (n : Fin 1024) : BitVec 32 := ix (ix2 n 0)

section Counting
variable (P : Fin 128 → Prop) [DecidablePred P]

/-- How many of the positions up to `i` satisfy `P`. -/
def upTo (i : Fin 128) : ℕ := (Finset.univ.filter fun j : Fin 128 => j ≤ i ∧ P j).card

variable {P}
/-- If a later position satisfies `P`, the count there is greater than at the earlier one. -/
theorem upTo_lt {i j : Fin 128} (hij : i < j) (hj : P j) : upTo P i < upTo P j := by
  refine Finset.card_lt_card ⟨fun a ha => ?_, fun hs => ?_⟩
  · simp only [Finset.mem_filter, Finset.mem_univ, true_and] at ha ⊢
    exact ⟨ha.1.trans hij.le, ha.2⟩
  · have := hs (Finset.mem_filter.mpr ⟨Finset.mem_univ j, le_rfl, hj⟩)
    simp only [Finset.mem_filter, Finset.mem_univ, true_and] at this
    exact absurd this.1 (not_le.mpr hij)

/-- Two positions of one rank are one. -/
theorem upTo_inj {i j : Fin 128} (hi : P i) (hj : P j) (h : upTo P i = upTo P j) : i = j := by
  rcases lt_trichotomy i j with hl | he | hg
  · exact absurd h (upTo_lt hl hj).ne
  · exact he
  · exact absurd h.symm (upTo_lt hg hi).ne

/-- At a position that satisfies `P` the count is at least one. -/
theorem upTo_pos {i : Fin 128} (hi : P i) : 0 < upTo P i :=
  Finset.card_pos.mpr ⟨i, Finset.mem_filter.mpr ⟨Finset.mem_univ i, le_rfl, hi⟩⟩

/-- The count is at most the number of all positions that satisfy `P`. -/
theorem upTo_le (i : Fin 128) : upTo P i ≤ (Finset.univ.filter P).card :=
  Finset.card_le_card fun a ha => Finset.mem_filter.mpr ⟨Finset.mem_univ a, (Finset.mem_filter.mp ha).2.2⟩

/-- Equivalent predicates have one count. -/
theorem upTo_congr {Q : Fin 128 → Prop} [DecidablePred Q] (h : ∀ i, P i ↔ Q i) (i : Fin 128) : upTo P i = upTo Q i := by
  unfold upTo; simp only [h]
end Counting

/-- Token `i` of block `b` is device `c`'s. -/
abbrev ours (c : Fin 8) (ix : Vec Ideal S1024x1 .i32) (b : Fin 8) (i : Fin 128) : Prop := Home c (wordAt ix (tok b i))

/-- Row `i` of the triangular product counts. -/
theorem tril_apply (i j : Fin 128) : k0_pay12 (F := Ideal) (ix2 i j) = if j ≤ i then (1 : EReal) else 0 := by
  pointwise [k0_pay12]
  rw [sge_bit, sitofp_bit, toInt_ofNat_small (by omega), toInt_ofNat_small (by omega)]
  simp only [Nat.cast_le, Fin.val_fin_le]

/-- A row of the triangular matrix times the indicator of `P` is the count of `P` up to that row. -/
theorem sum_tril (P : Fin 128 → Prop) [DecidablePred P] (i : Fin 128) :
    (∑ j, k0_pay12 (F := Ideal) (ix2 i j) * (if P j then (1 : EReal) else 0)) = ((upTo P i : ℕ) : EReal) := by
  rw [upTo, ← sum_count]
  refine Finset.sum_congr rfl fun j _ => ?_
  rw [tril_apply]
  by_cases h : j ≤ i <;> by_cases h' : P j <;> simp [h, h']

/-- The kernel's mask says whether a token is the device's. -/
theorem on_apply (c : Dev nD) (ix : Vec Ideal S1024x1 .i32) (n : Fin 1024) (u : Fin 1) :
    k0_pay11 (me c) (ixV (F := Ideal) ix) (ix2 n u) = bit (Home c (wordAt ix n)) := by
  rw [Subsingleton.elim u 0]
  pointwise [k0_pay11, k0_pay3]
  exact home_bit c _

/-- The same at a token named by its block. -/
theorem on_tok (c : Dev nD) (ix : Vec Ideal S1024x1 .i32) (b : Fin 8) (i : Fin 128) (n : Fin 1024) (u : Fin 1)
    (h : n.val = 128 * b.val + i.val) :
    k0_pay11 (me c) (ixV (F := Ideal) ix) (ix2 n u) = bit (ours c ix b i) := by
  rw [on_apply]; congr 3; exact Fin.ext h

/-- The kernel's rank of a token is the count of the device's tokens up to it. -/
theorem rank_apply (c : Dev nD) (ix : Vec Ideal S1024x1 .i32) (i : Fin 128) (b : Fin 8) :
    k0_pay14 (F := Ideal) (me c) (ixV (F := Ideal) ix) (ix2 i b) = ((upTo (ours c ix b) i : ℕ) : EReal) := by
  rw [← sum_tril]
  pointwise [k0_pay14]
  refine Finset.sum_congr rfl fun j _ => congrArg (k0_pay12 (F := Ideal) (ix2 i j) * ·) ?_
  fin_vals b with hb
  all_goals simp only [hb, Nat.reduceSub, Nat.reduceLT, ↓reduceDIte]
  all_goals refine (congrArg (fun w => FloatOps.sitofp (F := Ideal) FTy.f32 (BitVec.setWidth 32 w)) ?_).trans (sitofp_bit _)
  all_goals exact on_tok c ix b j _ _ (by simp only [hb, Nat.reduceMul, Nat.zero_add])

/-- Whether row `r` of the selector of block `b` takes token `i`. -/
def Takes (c : Fin 8) (ix : Vec Ideal S1024x1 .i32) (b : Fin 8) (i : Fin 128) (r : Fin 48) : Prop :=
  upTo (ours c ix b) i = r.val + 1 ∧ ours c ix b i

instance (c : Fin 8) (ix : Vec Ideal S1024x1 .i32) (b : Fin 8) (i : Fin 128) (r : Fin 48) : Decidable (Takes c ix b i r) :=
  inferInstanceAs (Decidable (_ ∧ _))

/-- A row takes at most one token. -/
theorem Takes.unique {c : Fin 8} {ix : Vec Ideal S1024x1 .i32} {b : Fin 8} {i j : Fin 128} {r : Fin 48} (hi : Takes c ix b i r)
    (hj : Takes c ix b j r) : i = j := upTo_inj hi.2 hj.2 (hi.1.trans hj.1.symm)

/-- The selector's entry. -/
abbrev selE (c : Fin 8) (ix : Vec Ideal S1024x1 .i32) (b : Fin 8) (i : Fin 128) (r : Fin 48) : EReal := if Takes c ix b i r then 1 else 0

/-- The comparison of the rank with the row number, and the mask, give the selector's entry. -/
theorem sel_read (c : Dev nD) (ix : Vec Ideal S1024x1 .i32) (b : Fin 8) (i : Fin 128) (r : Fin 48) (b' : Fin 8) (n : Fin 1024) (u : Fin 1)
    (hb : b'.val = b.val) (h : n.val = 128 * b.val + i.val) :
    Scalar.select (IntOp.andi
        (BitVec.ofBool (decide (k0_pay14 (F := Ideal) (me c) (ixV (F := Ideal) ix) (ix2 i b') = FloatOps.sitofp FTy.f32 (IntOp.addi (BitVec.ofNat 32 r.val) 1#32))))
        (k0_pay11 (me c) (ixV (F := Ideal) ix) (ix2 n u))) (1 : EReal) 0 = selE c ix b i r := by
  obtain rfl : b' = b := Fin.ext hb
  rw [on_tok c ix b' i n u h, rank_apply, show (1#32 : BitVec 32) = BitVec.ofNat 32 1 from rfl, addi_ofNat, sitofp_small (by omega)]
  refine (congrArg (Scalar.select · (1 : EReal) 0) (andi_bit _ _)).trans ((select_bit _ _ _).trans ?_)
  exact if_congr (by rw [Nat.cast_inj]; rfl) rfl rfl

section Selectors
variable (c : Dev nD) (ix : Vec Ideal S1024x1 .i32) (i : Fin 128) (r : Fin 48)

/-- The selector of block 0, read at an entry. -/
theorem sel0_apply : sel0 (F := Ideal) c ix (ix2 i r) = selE c ix 0 i r := by
  pointwise [k0_pay15, k0_pay13]; exact sel_read c ix 0 i r _ _ _ rfl (by simp)
/-- The selector of block 1, read at an entry. -/
theorem sel1_apply : sel1 (F := Ideal) c ix (ix2 i r) = selE c ix 1 i r := by
  pointwise [k0_pay18, k0_pay16, k0_pay17, k0_pay13]; exact sel_read c ix 1 i r _ _ _ rfl (by simp)
/-- The selector of block 2, read at an entry. -/
theorem sel2_apply : sel2 (F := Ideal) c ix (ix2 i r) = selE c ix 2 i r := by
  pointwise [k0_pay19, k0_pay13]; exact sel_read c ix 2 i r _ _ _ rfl (by simp)
/-- The selector of block 3, read at an entry. -/
theorem sel3_apply : sel3 (F := Ideal) c ix (ix2 i r) = selE c ix 3 i r := by
  pointwise [k0_pay20, k0_pay13]; exact sel_read c ix 3 i r _ _ _ rfl (by simp)
/-- The selector of block 4, read at an entry. -/
theorem sel4_apply : sel4 (F := Ideal) c ix (ix2 i r) = selE c ix 4 i r := by
  pointwise [k0_pay21, k0_pay13]; exact sel_read c ix 4 i r _ _ _ rfl (by simp)
/-- The selector of block 5, read at an entry. -/
theorem sel5_apply : sel5 (F := Ideal) c ix (ix2 i r) = selE c ix 5 i r := by
  pointwise [k0_pay22, k0_pay13]; exact sel_read c ix 5 i r _ _ _ rfl (by simp)
/-- The selector of block 6, read at an entry. -/
theorem sel6_apply : sel6 (F := Ideal) c ix (ix2 i r) = selE c ix 6 i r := by
  pointwise [k0_pay25, k0_pay23, k0_pay24, k0_pay13]; exact sel_read c ix 6 i r _ _ _ rfl (by simp)
/-- The selector of block 7, read at an entry. -/
theorem sel7_apply : sel7 (F := Ideal) c ix (ix2 i r) = selE c ix 7 i r := by
  pointwise [k0_pay26, k0_pay13]; exact sel_read c ix 7 i r _ _ _ rfl (by simp)
end Selectors

/-- A sum over a block's tokens, each weighted by a row's selector, is the taken token's term. -/
theorem sum_takes {c : Fin 8} {ix : Vec Ideal S1024x1 .i32} {b : Fin 8} {i : Fin 128} {r : Fin 48} (h : Takes c ix b i r)
    (f : Fin 128 → EReal) : (∑ j, selE c ix b j r * f j) = f i := by
  rw [sum_one i fun j hj => by rw [selE, if_neg fun hj' => hj (hj'.unique h), zero_mul], selE, if_pos h, one_mul]

end Cert.Moe
-- ==== Proof.Rows.lean ====
/-
# The compacted rows and their experts' numbers

Row `48 b + r` of the compacted buffer holds the gated token that row `r` of the selector of block `b` takes, and beside it the
number of the token's expert.
-/
module

public import proofs.«01_k».proof.Proof.Rank

@[expose] public section

set_option maxRecDepth 16384

noncomputable section

namespace Cert.Moe

open Cert.KernelIdeal Cert.KernelIdeal.Gen
open Idealize.ShloMosaic
open Idealize.ShloMosaic.TcCoe

/-- Row `r` of block `b` in the compacted buffer. -/
def crow (b : Fin 8) (r : Fin 48) : Fin 384 := ⟨48 * b.val + r.val, by omega⟩

/-- A device's expert as one of the 32. -/
def expN (c : Fin 8) (j : Fin 4) : Fin 32 := ⟨4 * c.val + j.val, by omega⟩

variable (c : Dev nD) (x : Vec Ideal S1024x256 .bf16) (rw : Vec Ideal S256x32 .bf16) (ix : Vec Ideal S1024x1 .i32)

/-- Picking one expert's probability out of a row. -/
theorem pick_apply (p : FVec Ideal S1024x32 .f32) (j : Fin 4) (n : Fin 1024) :
    (∑ e : Fin 32, Scalar.select (IntOp.cmpi .eq (BitVec.ofNat 32 e.val) (expW c j)) (p (ix2 n e)) (0 : EReal)) = p (ix2 n (expN c j)) := by
  have key : ∀ e : Fin 32, Scalar.select (IntOp.cmpi .eq (BitVec.ofNat 32 e.val) (expW c j)) (p (ix2 n e)) (0 : EReal)
      = if e = expN c j then p (ix2 n e) else 0 := by
    intro e
    refine (congrArg (Scalar.select · _ _) (eq_bit _ _)).trans ((select_bit _ _ _).trans (if_congr ?_ rfl rfl))
    rw [← toInt_inj, toInt_ofNat_small (by omega), expW_toInt]
    constructor
    · intro h; exact Fin.ext (by simp only [expN]; omega)
    · rintro rfl; simp only [expN]; push_cast; rfl
  rw [Finset.sum_congr rfl fun e _ => key e, Finset.sum_ite_eq' Finset.univ (expN c j), if_pos (Finset.mem_univ _)]

/-- The gate of a token whose expert is the device's `j`-th: that expert's probability. -/
theorem gate_apply (n : Fin 1024) (j : Fin 4) (h : wordAt ix n = expW c j) :
    gateV (F := Ideal) c x rw ix (ix2 n 0) = k0_pay2 (F := Ideal) x rw (ix2 n (expN c j)) := by
  have hx : ix (ix2 n 0) = expW c j := h
  pointwise [k0_pay6, k0_pay5, k0_pay4, k0_pay3]
  have t : ∀ j' : Fin 4, Scalar.select (IntOp.cmpi .eq (ix (ix2 n 0)) (expW c j'))
      (∑ e : Fin 32, Scalar.select (IntOp.cmpi .eq (BitVec.ofNat 32 e.val) (expW c j')) (k0_pay2 (F := Ideal) x rw (ix2 n e)) (0 : EReal)) 0
        = if j = j' then k0_pay2 (F := Ideal) x rw (ix2 n (expN c j)) else 0 := by
    intro j'
    rw [pick_apply, hx, eq_bit, select_bit]
    by_cases h' : j = j'
    · subst h'; simp
    · rw [if_neg h', if_neg fun e => h' (expW_inj e)]
  refine (congrArg₂ (· + ·) (congrArg₂ (· + ·) (congrArg₂ (· + ·) (t 0) (t 1)) (t 2)) (t 3)).trans ?_
  generalize k0_pay2 (F := Ideal) x rw (ix2 n (expN c j)) = v
  fin_cases j <;> simp

/-- A term of a block's sum, with the selector and the token renamed. -/
theorem leaf (b : Fin 8) (i : Fin 128) (r : Fin 48) {s : FVec Ideal S128x48 .bf16} (hs : ∀ i r, s (ix2 i r) = selE c ix b i r)
    (r' : Fin 48) (n : Fin 1024) (hr : r'.val = r.val) (hn : n.val = 128 * b.val + i.val) (f : Fin 1024 → EReal) :
    s (ix2 i r') * f n = selE c ix b i r * f (tok b i) := by
  obtain rfl : r' = r := Fin.ext hr
  obtain rfl : n = tok b i := Fin.ext hn
  rw [hs]

set_option maxHeartbeats 1000000 in
/-- A packed row is the sum of the gated tokens weighted by the selector. -/
theorem rows_apply (b : Fin 8) (r : Fin 48) (k : Fin 256) :
    rowsV (F := Ideal) c x rw ix (ix2 (crow b r) k)
      = ∑ i, selE c ix b i r * (gateV (F := Ideal) c x rw ix (ix2 (tok b i) 0) * x (ix2 (tok b i) k)) := by
  have hr : (crow b r).val = 48 * b.val + r.val := rfl
  have := r.isLt
  generalize crow b r = R at hr
  pointwise [k0_pay38, k0_pay37, k0_pay35, k0_pay33, k0_pay31, k0_pay29, k0_pay27, k0_pay1]
  fin_vals b with hb
  · obtain rfl : b = 0 := Fin.ext hb
    simp (disch := omega) only [dif_neg, dif_pos]
    refine Finset.sum_congr rfl fun i _ => (mul_assoc _ _ _).trans <| leaf c ix 0 i r (sel0_apply c ix) _ _ (by simp only; omega) (by simp) (fun n => gateV (F := Ideal) c x rw ix (ix2 n 0) * x (ix2 n k))
  · obtain rfl : b = 1 := Fin.ext hb
    simp (disch := omega) only [dif_neg, dif_pos]
    refine Finset.sum_congr rfl fun i _ => (mul_assoc _ _ _).trans <| leaf c ix 1 i r (sel1_apply c ix) _ _ (by simp only; omega) (by simp) (fun n => gateV (F := Ideal) c x rw ix (ix2 n 0) * x (ix2 n k))
  · obtain rfl : b = 2 := Fin.ext hb
    simp (disch := omega) only [dif_neg, dif_pos]
    refine Finset.sum_congr rfl fun i _ => (mul_assoc _ _ _).trans <| leaf c ix 2 i r (sel2_apply c ix) _ _ (by simp only; omega) (by simp) (fun n => gateV (F := Ideal) c x rw ix (ix2 n 0) * x (ix2 n k))
  · obtain rfl : b = 3 := Fin.ext hb
    simp (disch := omega) only [dif_neg, dif_pos]
    refine Finset.sum_congr rfl fun i _ => (mul_assoc _ _ _).trans <| leaf c ix 3 i r (sel3_apply c ix) _ _ (by simp only; omega) (by simp) (fun n => gateV (F := Ideal) c x rw ix (ix2 n 0) * x (ix2 n k))
  · obtain rfl : b = 4 := Fin.ext hb
    simp (disch := omega) only [dif_neg, dif_pos]
    refine Finset.sum_congr rfl fun i _ => (mul_assoc _ _ _).trans <| leaf c ix 4 i r (sel4_apply c ix) _ _ (by simp only; omega) (by simp) (fun n => gateV (F := Ideal) c x rw ix (ix2 n 0) * x (ix2 n k))
  · obtain rfl : b = 5 := Fin.ext hb
    simp (disch := omega) only [dif_neg, dif_pos]
    refine Finset.sum_congr rfl fun i _ => (mul_assoc _ _ _).trans <| leaf c ix 5 i r (sel5_apply c ix) _ _ (by simp only; omega) (by simp) (fun n => gateV (F := Ideal) c x rw ix (ix2 n 0) * x (ix2 n k))
  · obtain rfl : b = 6 := Fin.ext hb
    simp (disch := omega) only [dif_neg, dif_pos]
    refine Finset.sum_congr rfl fun i _ => (mul_assoc _ _ _).trans <| leaf c ix 6 i r (sel6_apply c ix) _ _ (by simp only; omega) (by simp) (fun n => gateV (F := Ideal) c x rw ix (ix2 n 0) * x (ix2 n k))
  · obtain rfl : b = 7 := Fin.ext hb
    simp (disch := omega) only [dif_neg, dif_pos]
    refine Finset.sum_congr rfl fun i _ => (mul_assoc _ _ _).trans <| leaf c ix 7 i r (sel7_apply c ix) _ _ (by simp only; omega) (by simp) (fun n => gateV (F := Ideal) c x rw ix (ix2 n 0) * x (ix2 n k))

set_option maxHeartbeats 1000000 in
/-- A packed row's expert number is the sum of the expert numbers weighted by the selector. -/
theorem ids_apply (b : Fin 8) (r : Fin 48) :
    idsV (F := Ideal) c ix (ix2 (crow b r) 0) = ∑ i, selE c ix b i r * FloatOps.sitofp (F := Ideal) FTy.f32 (wordAt ix (tok b i)) := by
  have hr : (crow b r).val = 48 * b.val + r.val := rfl
  have := r.isLt
  generalize crow b r = R at hr
  pointwise [k0_pay39, k0_pay36, k0_pay34, k0_pay32, k0_pay30, k0_pay28, k0_pay3]
  fin_vals b with hb
  · obtain rfl : b = 0 := Fin.ext hb
    simp (disch := omega) only [dif_neg, dif_pos]
    refine Finset.sum_congr rfl fun i _ => leaf c ix 0 i r (sel0_apply c ix) _ _ (by simp only; omega) (by simp) (fun n => FloatOps.sitofp (F := Ideal) FTy.f32 (wordAt ix n))
  · obtain rfl : b = 1 := Fin.ext hb
    simp (disch := omega) only [dif_neg, dif_pos]
    refine Finset.sum_congr rfl fun i _ => leaf c ix 1 i r (sel1_apply c ix) _ _ (by simp only; omega) (by simp) (fun n => FloatOps.sitofp (F := Ideal) FTy.f32 (wordAt ix n))
  · obtain rfl : b = 2 := Fin.ext hb
    simp (disch := omega) only [dif_neg, dif_pos]
    refine Finset.sum_congr rfl fun i _ => leaf c ix 2 i r (sel2_apply c ix) _ _ (by simp only; omega) (by simp) (fun n => FloatOps.sitofp (F := Ideal) FTy.f32 (wordAt ix n))
  · obtain rfl : b = 3 := Fin.ext hb
    simp (disch := omega) only [dif_neg, dif_pos]
    refine Finset.sum_congr rfl fun i _ => leaf c ix 3 i r (sel3_apply c ix) _ _ (by simp only; omega) (by simp) (fun n => FloatOps.sitofp (F := Ideal) FTy.f32 (wordAt ix n))
  · obtain rfl : b = 4 := Fin.ext hb
    simp (disch := omega) only [dif_neg, dif_pos]
    refine Finset.sum_congr rfl fun i _ => leaf c ix 4 i r (sel4_apply c ix) _ _ (by simp only; omega) (by simp) (fun n => FloatOps.sitofp (F := Ideal) FTy.f32 (wordAt ix n))
  · obtain rfl : b = 5 := Fin.ext hb
    simp (disch := omega) only [dif_neg, dif_pos]
    refine Finset.sum_congr rfl fun i _ => leaf c ix 5 i r (sel5_apply c ix) _ _ (by simp only; omega) (by simp) (fun n => FloatOps.sitofp (F := Ideal) FTy.f32 (wordAt ix n))
  · obtain rfl : b = 6 := Fin.ext hb
    simp (disch := omega) only [dif_neg, dif_pos]
    refine Finset.sum_congr rfl fun i _ => leaf c ix 6 i r (sel6_apply c ix) _ _ (by simp only; omega) (by simp) (fun n => FloatOps.sitofp (F := Ideal) FTy.f32 (wordAt ix n))
  · obtain rfl : b = 7 := Fin.ext hb
    simp (disch := omega) only [dif_neg, dif_pos]
    refine Finset.sum_congr rfl fun i _ => leaf c ix 7 i r (sel7_apply c ix) _ _ (by simp only; omega) (by simp) (fun n => FloatOps.sitofp (F := Ideal) FTy.f32 (wordAt ix n))

/-- A row that takes a token holds the gated token … -/
theorem rows_hit {b : Fin 8} {i : Fin 128} {r : Fin 48} (h : Takes c ix b i r) (k : Fin 256) :
    rowsV (F := Ideal) c x rw ix (ix2 (crow b r) k) = gateV (F := Ideal) c x rw ix (ix2 (tok b i) 0) * x (ix2 (tok b i) k) := by
  rw [rows_apply]; exact sum_takes h _

/-- … and its expert's number. -/
theorem ids_hit {b : Fin 8} {i : Fin 128} {r : Fin 48} (h : Takes c ix b i r) :
    idsV (F := Ideal) c ix (ix2 (crow b r) 0) = FloatOps.sitofp (F := Ideal) FTy.f32 (wordAt ix (tok b i)) := by
  rw [ids_apply]; exact sum_takes h _

end Cert.Moe
-- ==== Proof.Send.lean ====
/-
# The partial results a device sends

Row `48 b + r` of a device's send buffer holds, for the token the row takes, the token's gated product with its expert's weights:
of the four experts' products all but one are products of zero rows.
-/
module

public import proofs.«01_k».proof.Proof.Rows

@[expose] public section

set_option maxRecDepth 16384

noncomputable section

namespace Cert.Moe

open Cert.KernelIdeal Cert.KernelIdeal.Gen
open Idealize.ShloMosaic
open Idealize.ShloMosaic.TcCoe

variable (c : Dev nD) (x : Vec Ideal S1024x256 .bf16) (rw : Vec Ideal S256x32 .bf16) (ix : Vec Ideal S1024x1 .i32)
  (e0 e1 e2 e3 : Vec Ideal S1x256x512 .bf16)

/-- One expert's share of a row that takes a token: the token's product if the expert is the token's, zero otherwise. -/
theorem expert_part {b : Fin 8} {i : Fin 128} {r : Fin 48} (h : Takes c ix b i r) (j : Fin 4) (hj : wordAt ix (tok b i) = expW c j)
    (j' : Fin 4) (W : Vec Ideal S1x256x512 .bf16) (col : Fin 512) :
    (∑ k : Fin 256, rowsV (F := Ideal) c x rw ix (ix2 (crow b r) k)
        * FloatOps.sitofp (F := Ideal) FTy.f32 (BitVec.setWidth 32 (BitVec.ofBool (decide (idsV (F := Ideal) c ix (ix2 (crow b r) 0) = (((expW c j').toInt : ℝ) : EReal)))))
        * W (ix3 0 k col))
      = if j = j' then ∑ k : Fin 256, k0_pay2 (F := Ideal) x rw (ix2 (tok b i) (expN c j)) * x (ix2 (tok b i) k) * W (ix3 0 k col) else 0 := by
  have hi : idsV (F := Ideal) c ix (ix2 (crow b r) 0) = (((expW c j).toInt : ℝ) : EReal) := by
    rw [ids_hit c ix h, hj]; rfl
  have hb : FloatOps.sitofp (F := Ideal) FTy.f32 (BitVec.setWidth 32 (BitVec.ofBool (decide (idsV (F := Ideal) c ix (ix2 (crow b r) 0) = (((expW c j').toInt : ℝ) : EReal)))))
      = if j = j' then (1 : EReal) else 0 := by
    refine (sitofp_bit _).trans (if_congr ?_ rfl rfl)
    rw [hi, EReal.coe_eq_coe_iff, Int.cast_inj, toInt_inj]
    exact ⟨expW_inj, fun e => e ▸ rfl⟩
  rw [hb]
  by_cases hj' : j = j'
  · rw [if_pos hj', if_pos hj']
    refine Finset.sum_congr rfl fun k _ => ?_
    rw [rows_hit c x rw ix h, gate_apply c x rw ix _ j hj, mul_one]
  · rw [if_neg hj', if_neg hj']
    refine Finset.sum_eq_zero fun k _ => ?_
    rw [mul_zero, zero_mul]

/-- The first column half's send buffer at a row that takes a token. -/
theorem sendA_hit {b : Fin 8} {i : Fin 128} {r : Fin 48} (h : Takes c ix b i r) (j : Fin 4) (hj : wordAt ix (tok b i) = expW c j) (col : Fin 256) :
    sendA (F := Ideal) c x rw ix e0 e1 e2 e3 (ix2 (crow b r) col)
      = ∑ k : Fin 256, k0_pay2 (F := Ideal) x rw (ix2 (tok b i) (expN c j)) * x (ix2 (tok b i) k)
          * (![e0, e1, e2, e3] j : Vec Ideal S1x256x512 .bf16) (ix3 0 k ⟨col.val, by omega⟩) := by
  have t := fun j' W => expert_part c x rw ix h j hj j' W ⟨col.val, by omega⟩
  generalize crow b r = R at t
  pointwise [sendA, k0_pay45, k0_pay40, k0_pay41, k0_pay42, k0_pay43, k0_pay44, k0_pay7, k0_pay8, k0_pay9, k0_pay10]
  refine (congrArg₂ (· + ·) (congrArg₂ (· + ·) (congrArg₂ (· + ·) (t 0 e0) (t 1 e1)) (t 2 e2)) (t 3 e3)).trans ?_
  fin_cases j <;> simp

/-- The second column half's. -/
theorem sendB_hit {b : Fin 8} {i : Fin 128} {r : Fin 48} (h : Takes c ix b i r) (j : Fin 4) (hj : wordAt ix (tok b i) = expW c j) (col : Fin 256) :
    sendB (F := Ideal) c x rw ix e0 e1 e2 e3 (ix2 (crow b r) col)
      = ∑ k : Fin 256, k0_pay2 (F := Ideal) x rw (ix2 (tok b i) (expN c j)) * x (ix2 (tok b i) k)
          * (![e0, e1, e2, e3] j : Vec Ideal S1x256x512 .bf16) (ix3 0 k ⟨256 + col.val, by omega⟩) := by
  have t := fun j' W => expert_part c x rw ix h j hj j' W ⟨256 + col.val, by omega⟩
  generalize crow b r = R at t
  pointwise [sendB, k0_pay46, k0_pay40, k0_pay41, k0_pay42, k0_pay43, k0_pay44, k0_pay7, k0_pay8, k0_pay9, k0_pay10]
  refine (congrArg₂ (· + ·) (congrArg₂ (· + ·) (congrArg₂ (· + ·) (t 0 e0) (t 1 e1)) (t 2 e2)) (t 3 e3)).trans ?_
  fin_cases j <;> simp

end Cert.Moe
-- ==== Proof.Back.lean ====
module

public import proofs.«01_k».proof.Proof.Send

@[expose] public section

set_option maxRecDepth 16384

noncomputable section

namespace Cert.Moe

open Cert.KernelIdeal Cert.KernelIdeal.Gen
open Idealize.ShloMosaic
open Idealize.ShloMosaic.TcCoe

/-- The signed quotient of a word by four, rounded toward zero. -/
theorem divsi_four (w : BitVec 32) :
    (IntOp.divsi .vector w 4#32).toInt = w.toInt.tdiv 4 := by
  have h : ¬ IntOp.SDivCorner w 4#32 := by
    simp [IntOp.SDivCorner]
  rw [IntOp.divsi, if_neg h, BitVec.toInt_sdiv_of_ne_or_ne _ _ (Or.inr (by decide))]
  rfl

/-- The signed remainder of a word by four, with the sign of the word. -/
theorem remsi_four (w : BitVec 32) :
    (IntOp.remsi .vector w 4#32).toInt = w.toInt.tmod 4 := by
  have h : ¬ IntOp.SDivCorner w 4#32 := by
    simp [IntOp.SDivCorner]
  rw [IntOp.remsi, if_neg h, BitVec.toInt_srem]
  rfl

/-- The difference of the two sign bits of a word is the word's sign. -/
theorem sign_word (w : BitVec 32) :
    IntOp.subi (BitVec.setWidth 32 (IntOp.cmpi .sgt w 0#32))
      (BitVec.setWidth 32 (IntOp.cmpi .slt w 0#32)) =
      if 0 < w.toInt then 1#32 else if w.toInt < 0 then -1#32 else 0#32 := by
  rw [sgt_bit, slt_bit]
  have h0 : (0#32).toInt = 0 := rfl
  rw [h0]
  by_cases hp : 0 < w.toInt
  · have hn : ¬ w.toInt < 0 := by omega
    simp [bit, hp, hn, IntOp.subi]
  · by_cases hn : w.toInt < 0
    · simp [bit, hp, hn, IntOp.subi]
    · simp [bit, hp, hn, IntOp.subi]

/-- The word the kernel computes for a token's home is the floor of its expert number by four. -/
theorem fdiv_toInt (ixb : Vec Ideal S128x1 .i32) (i : Fin 128) (u : Fin 1) :
    (k0_pay47 (F := Ideal) ixb (ix2 i u)).toInt = (ixb (ix2 i 0)).toInt / 4 := by
  obtain rfl : u = 0 := Subsingleton.elim _ _
  pointwise [k0_pay47]
  show _ = (ixb (ix2 i 0)).toInt / 4
  generalize ixb (ix2 i 0) = w
  have h1 : (Scalar.subi (Scalar.extui (Scalar.cmpi CmpIPredicate.sgt 4#32 0#32) : BitVec 32)
      (Scalar.extui (Scalar.cmpi CmpIPredicate.slt 4#32 0#32))) = 1#32 := by decide
  rw [h1, sign_word, ne_bit, ne_bit, andi_bit]
  rw [select_bit]
  have hd := divsi_four w
  have hr := remsi_four w
  have hr0 : (IntOp.remsi .vector w 4#32 ≠ 0#32) ↔ w.toInt.tmod 4 ≠ 0 := by
    rw [← hr, ne_eq, ne_eq, ← BitVec.toInt_inj]; rfl
  have hs : ((if 0 < w.toInt then 1#32 else if w.toInt < 0 then -1#32 else 0#32) ≠ 1#32) ↔
      ¬ 0 < w.toInt := by
    by_cases hp : 0 < w.toInt
    · simp [hp]
    · by_cases hn : w.toInt < 0 <;> simp [hp, hn]
  have hm := Int.tmod_def w.toInt 4
  have ht := Int.tdiv_eq_ediv (a := w.toInt) (b := 4)
  have hb := BitVec.toInt_lt (x := w)
  have hb' := BitVec.le_toInt (x := w)
  have ht' : w.toInt.tdiv 4 = w.toInt / 4 ∧ (0 ≤ w.toInt ∨ w.toInt % 4 = 0) ∨
      w.toInt.tdiv 4 = w.toInt / 4 + 1 ∧ w.toInt < 0 ∧ w.toInt % 4 ≠ 0 := by
    by_cases hh : 0 ≤ w.toInt ∨ (4 : ℤ) ∣ w.toInt
    · rw [if_pos hh] at ht; left; omega
    · rw [if_neg hh, show Int.sign 4 = 1 from rfl] at ht; right; omega
  clear ht
  simp only [hs, hr0]
  split_ifs with h
  · rw [IntOp.subi, BitVec.toInt_sub, hd]
    have h1' : (1#32).toInt = 1 := rfl
    rw [h1', Int.bmod_eq_of_le] <;> omega
  · rw [hd]
    omega

/-- The slot word of a token: the exclusive or of its home with the receiver names the slot of that home. -/
theorem slot_word (c : Dev nD) (k : Fin 8) (W w : BitVec 32) (hW : W.toInt = w.toInt / 4) :
    IntOp.xori W (me c) = BitVec.ofNat 32 k.val ↔ Home (px k c) w := by
  have h0 : ∀ (c : Dev nD) (k : Fin 8), BitVec.ofNat 32 k.val ^^^ me c = BitVec.ofNat 32 (px k c).val := by decide
  have h1 : IntOp.xori W (me c) = BitVec.ofNat 32 k.val ↔ W = BitVec.ofNat 32 (px k c).val := by
    rw [← h0 c k, IntOp.xori]
    constructor
    · intro h; rw [← h, BitVec.xor_assoc, BitVec.xor_self, BitVec.xor_zero]
    · intro h; rw [h, BitVec.xor_assoc, BitVec.xor_self, BitVec.xor_zero]
  rw [h1, ← toInt_inj, toInt_ofNat_small (by have := (show (px k c).val < 8 from (px k c).isLt); omega), hW]
  rfl

section Receive
variable (c : Dev nD) (ixb : Vec Ideal S128x1 .i32)

/-- Token `i` of the receiver's own block lives on the sender of slot `s`. -/
abbrev from_ (s : Fin 8) (i : Fin 128) : Prop := Home (px s c) (ixb (ix2 i 0))

/-- The receiver's rank of a token among the tokens of the same sender. -/
theorem rankb_apply (s : Fin 8) (i : Fin 128) (h : from_ c ixb s i) :
    k0_pay50 (F := Ideal) (k0_pay12 (F := Ideal)) (k0_pay47 (F := Ideal) ixb) (broadcast S128x1 (me c)) (ix2 i 0)
      = ((upTo (from_ c ixb s) i : ℕ) : EReal) := by
  pointwise [k0_pay50, k0_pay49]
  have hk : ∀ (k : Fin 8) (j : Fin 128), (FloatOps.sitofp FTy.f32 (BitVec.setWidth 32
      (IntOp.cmpi CmpIPredicate.eq (IntOp.xori (k0_pay47 (F := Ideal) ixb (ix2 j 0)) (me c)) (BitVec.ofNat 32 k.val))) : Ideal .f32)
      = if from_ c ixb k j then (1 : EReal) else 0 := by
    intro k j
    rw [eq_bit, sitofp_bit]
    exact if_congr (slot_word c k _ _ (fdiv_toInt ixb j 0)) rfl rfl
  simp only [hk]
  rw [sum_one s, if_pos h, mul_one, sum_tril]
  intro k hks
  rw [if_neg, mul_zero]
  intro hk'
  exact hks (px_inj c (hk'.unique h))

/-- The kernel's rounded-down division of a column number by 48 gives the word of the quotient. -/
theorem col_div : ∀ q : Fin 384, Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 48#32 0#32) : BitVec 32)
            (Scalar.extui (Scalar.cmpi CmpIPredicate.slt 48#32 0#32))))
        (IntOp.cmpi CmpIPredicate.ne (IntOp.remsi ArithUnit.vector (BitVec.ofNat 32 q.val) 48#32) 0#32))
      (IntOp.subi (IntOp.divsi ArithUnit.vector (BitVec.ofNat 32 q.val) 48#32) 1#32)
      (IntOp.divsi ArithUnit.vector (BitVec.ofNat 32 q.val) 48#32) = BitVec.ofNat 32 (q.val / 48) := by
  decide +kernel

/-- And the remainder plus one. -/
theorem col_mod : ∀ q : Fin 384, IntOp.addi
      (Scalar.select
        (IntOp.andi
          (IntOp.xori
            (IntOp.cmpi CmpIPredicate.slt
              (IntOp.remsi ArithUnit.vector (BitVec.ofNat 32 q.val)
                (Scalar.select (Scalar.cmpi CmpIPredicate.eq 48#32 0#32) 1#32 48#32))
              0#32)
            (Scalar.cmpi CmpIPredicate.slt
              (Scalar.select (Scalar.cmpi CmpIPredicate.eq 48#32 0#32) 1#32 48#32) 0#32))
          (IntOp.cmpi CmpIPredicate.ne
            (IntOp.remsi ArithUnit.vector (BitVec.ofNat 32 q.val)
              (Scalar.select (Scalar.cmpi CmpIPredicate.eq 48#32 0#32) 1#32 48#32))
            0#32))
        (IntOp.addi
          (IntOp.remsi ArithUnit.vector (BitVec.ofNat 32 q.val)
            (Scalar.select (Scalar.cmpi CmpIPredicate.eq 48#32 0#32) 1#32 48#32))
          (Scalar.select (Scalar.cmpi CmpIPredicate.eq 48#32 0#32) 1#32 48#32))
        (IntOp.remsi ArithUnit.vector (BitVec.ofNat 32 q.val)
          (Scalar.select (Scalar.cmpi CmpIPredicate.eq 48#32 0#32) 1#32 48#32)))
      1#32 = BitVec.ofNat 32 (q.val % 48 + 1) := by
  decide +kernel

/-- The receiver's selector: column `48 s + r` is taken by the token of sender `s` whose rank is `r + 1`. -/
theorem back_apply (i : Fin 128) (q : Fin 384) (s : Fin 8) (r : Fin 48) (hq : q.val = 48 * s.val + r.val) :
    backV (F := Ideal) c ixb (ix2 i q) = if from_ c ixb s i ∧ upTo (from_ c ixb s) i = r.val + 1 then (1 : EReal) else 0 := by
  pointwise [backV, k0_pay55, k0_pay52, k0_pay53, k0_pay54, k0_pay51, k0_pay48, k0_pay49]
  rw [col_div, col_mod, eq_bit]
  refine (congrArg (Scalar.select · (1 : EReal) 0) (andi_bit _ _)).trans ((select_bit _ _ _).trans ?_)
  refine if_congr ?_ rfl rfl
  have hs : q.val / 48 = s.val := by omega
  have hr : q.val % 48 = r.val := by omega
  rw [hs, hr, slot_word c s _ _ (fdiv_toInt ixb i 0)]
  refine and_congr_right fun h => ?_
  rw [rankb_apply c ixb s i h, sitofp_small (by omega), Nat.cast_inj]

/-- A sum over the columns weighted by a token's row of the selector is the term of its slot and rank. -/
theorem back_sum_hit (i : Fin 128) (s : Fin 8) (r : Fin 48) (h : from_ c ixb s i) (hr : upTo (from_ c ixb s) i = r.val + 1)
    (f : Fin 384 → EReal) :
    (∑ q, backV (F := Ideal) c ixb (ix2 i q) * f q) = f ⟨48 * s.val + r.val, by omega⟩ := by
  rw [sum_one ⟨48 * s.val + r.val, by omega⟩, back_apply c ixb i _ s r rfl, if_pos ⟨h, hr⟩, one_mul]
  intro q hq
  rw [back_apply c ixb i q ⟨q.val / 48, by omega⟩ ⟨q.val % 48, by omega⟩ (by simp only; omega), if_neg, zero_mul]
  rintro ⟨h', hr'⟩
  have hs : (⟨q.val / 48, by omega⟩ : Fin 8) = s := px_inj c (h'.unique h)
  rw [hs, hr] at hr'
  have hv := congrArg Fin.val hs
  simp only at hv hr'
  exact hq (Fin.ext (by simp only; omega))

/-- A token with no home in the mesh gets nothing. -/
theorem back_sum_miss (i : Fin 128) (h : ∀ s, ¬ from_ c ixb s i) (f : Fin 384 → EReal) :
    (∑ q, backV (F := Ideal) c ixb (ix2 i q) * f q) = 0 := by
  refine Finset.sum_eq_zero fun q _ => ?_
  rw [back_apply c ixb i q ⟨q.val / 48, by omega⟩ ⟨q.val % 48, by omega⟩ (by simp only; omega), if_neg fun h' => h _ h'.1, zero_mul]
end Receive

end Cert.Moe
-- ==== Proof.Blk.lean ====
/-
# The reduced block and the output, read at a position

A device's reduced block holds, at a token of its own 128, the gated product the token's home device computed for it. The output
at a token is the shared expert's row and the reduced block of the token's own block.
-/
module

public import proofs.«01_k».proof.Proof.Back

@[expose] public section

set_option maxRecDepth 16384

noncomputable section

namespace Cert.Moe

open Cert.KernelIdeal Cert.KernelIdeal.Gen
open Idealize.ShloMosaic
open Idealize.ShloMosaic.TcCoe

/-- Column `col` of half `h`. -/
def colN (h : Fin 2) (col : Fin 256) : Fin 512 := ⟨256 * h.val + col.val, by omega⟩

section Staged
variable (K : Cont Ideal) (c : Dev nD)

/-- A row of a chunk is a row of the send buffer. -/
theorem chunk_apply (h : Fin 2) (c d : Dev nD) (r : Fin 48) (col : Fin 256) :
    K.chunk h c d (ix2 r col) = K.sb h c (ix2 (crow d r) col) := by
  unfold Cont.chunk
  congr 1
  funext a
  apply Fin.ext
  rw [Rect.emb_apply]
  fin_cases a
  · show 48 * d.val + 1 * r.val = 48 * d.val + r.val; omega
  · show 0 + 1 * col.val = col.val; omega

/-- Slot `s` of the staging buffer holds the chunk for `c` of the device `s` away. -/
theorem stg_apply (h : Fin 2) (s : Fin 8) (r : Fin 48) (col : Fin 256) :
    K.stg h c (ix3 s r col) = K.sb h (px s c) (ix2 (crow c r) col) := by
  rw [← chunk_apply]
  have e : inSlot (ix3 s r col) = ix3 0 r col := by
    funext a; fin_cases a <;> rfl
  show k0_pay56 (F := Ideal) (K.chunk h (px s c) c) (inSlot (ix3 s r col)) = _
  rw [e]
  generalize K.chunk h (px s c) c = w
  pointwise [k0_pay56]
end Staged

section Blocks
variable (I : Dev nD → Inp Ideal)

/-- The weighted sum over the staged rows that the reduction computes. -/
def part (h : Fin 2) (c : Dev nD) (i : Fin 128) (col : Fin 256) : EReal :=
  ∑ q : Fin 384, backOf I c (ix2 i q) * (cont I).stg h c (ix3 ⟨q.val / 48, by omega⟩ ⟨q.val % 48, by omega⟩ col)

/-- The reduced block is that sum. -/
theorem blk_apply (h : Fin 2) (c : Dev nD) (i : Fin 128) (col : Fin 256) : (cont I).blk h c (ix2 i col) = part I h c i col := by
  rw [cont_blk, part]
  generalize (cont I).stg h c = s
  generalize backOf I c = b
  pointwise [k0_pay58, k0_pay57, k0_pay61]

/-- The update of the own block in the first column half adds the reduced sum to what was there. -/
theorem own0_apply (c : Dev nD) (o : Vec Ideal S128x256 .f32) (i : Fin 128) (col : Fin 256) :
    k0_pay63 (F := Ideal) (k0_pay57 (F := Ideal) (backOf I c) ((cont I).stg 0 c)) o (ix2 i col) = o (ix2 i col) + part I 0 c i col := by
  rw [part]
  generalize (cont I).stg 0 c = s
  generalize backOf I c = b
  pointwise [k0_pay63, k0_pay57, k0_pay61]

/-- The update of the own block in the second column half adds the reduced sum to what was there. -/
theorem own1_apply (c : Dev nD) (o : Vec Ideal S128x256 .f32) (i : Fin 128) (col : Fin 256) :
    k0_pay64 (F := Ideal) (k0_pay61 (F := Ideal) (backOf I c) ((cont I).stg 1 c)) o (ix2 i col) = o (ix2 i col) + part I 1 c i col := by
  rw [part]
  generalize (cont I).stg 1 c = s
  generalize backOf I c = b
  pointwise [k0_pay64, k0_pay57, k0_pay61]

/-- The update with a peer's block adds that block, entry by entry, to what was there. -/
theorem add_apply (o : Vec Ideal S128x256 .f32) (b : Vec Ideal S128x256 .bf16) (i : Fin 128) (col : Fin 256) :
    k0_pay68 (F := Ideal) o b (ix2 i col) = o (ix2 i col) + b (ix2 i col) := by
  pointwise [k0_pay68]

/-! ## Who computed a token's row -/

variable (x : Vec Ideal S1024x256 .bf16) (rw : Vec Ideal S256x32 .bf16) (ix : Vec Ideal S1024x1 .i32)

/-- All devices hold the same tokens, router and indices. -/
structure Same : Prop where
  x : ∀ c, (I c).x = x
  rw : ∀ c, (I c).rw = rw
  ix : ∀ c, (I c).ix = ix

/-- The gated product of token `n` with expert `j` of device `d`. -/
def prod (n : Fin 1024) (d : Fin 8) (j : Fin 4) (col : Fin 512) : EReal :=
  ∑ k : Fin 256, k0_pay2 (F := Ideal) x rw (ix2 n (expN d j)) * x (ix2 n k) * (I d).ew (ix3 j k col)

variable {I x rw ix}

/-- The weights of a device's `j`-th expert are slice `j` of the device's expert weights. -/
theorem ex_apply (c : Dev nD) (j : Fin 4) (k : Fin 256) (col : Fin 512) : (I c).ex j (ix3 0 k col) = (I c).ew (ix3 j k col) := by
  unfold Inp.ex
  congr 1
  funext a
  apply Fin.ext
  rw [Rect.emb_apply]
  fin_cases a
  · show j.val + 1 * 0 = j.val; omega
  · show 0 + 1 * k.val = k.val; omega
  · show 0 + 1 * col.val = col.val; omega

/-- The device's own block of indices starts at 128 times its number. -/
theorem own_off : ∀ c : Dev nD, k0_off2 c = ![128 * c.val, 0] := by decide +kernel

/-- Entry `i` of a device's own index block is the index of token `i` of that block. -/
theorem ixOwn_apply (S : Same I x rw ix) (c : Dev nD) (i : Fin 128) : (I c).ixOwn c (ix2 i 0) = wordAt ix (tok c i) := by
  unfold Inp.ixOwn
  rw [S.ix]
  show ix _ = ix _
  congr 1
  funext a
  apply Fin.ext
  rw [Rect.emb_apply]
  show k0_off2 c a + 1 * _ = _
  rw [own_off]
  fin_cases a
  · show 128 * c.val + 1 * i.val = 128 * c.val + i.val; omega
  · rfl

/-- A send buffer's row that takes a token. -/
theorem sb_hit (S : Same I x rw ix) (h : Fin 2) (d : Dev nD) {b : Fin 8} {i : Fin 128} {r : Fin 48} (ht : Takes d ix b i r) (j : Fin 4)
    (hj : wordAt ix (tok b i) = expW d j) (col : Fin 256) :
    (cont I).sb h d (ix2 (crow b r) col) = prod I x rw (tok b i) d j (colN h col) := by
  have e : ∀ k col', (![(I d).ex 0, (I d).ex 1, (I d).ex 2, (I d).ex 3] j : Vec Ideal S1x256x512 .bf16) (ix3 0 k col') = (I d).ew (ix3 j k col') := by
    intro k col'; rw [← ex_apply]; fin_cases j <;> rfl
  fin_cases h
  · show sendA (F := Ideal) d (I d).x (I d).rw (I d).ix ((I d).ex 0) ((I d).ex 1) ((I d).ex 2) ((I d).ex 3) _ = _
    rw [S.x, S.rw, S.ix, sendA_hit d x rw ix _ _ _ _ ht j hj]
    unfold prod
    refine Finset.sum_congr rfl fun k _ => ?_
    rw [e]
    congr 3
    exact Fin.ext (by simp [colN])
  · show sendB (F := Ideal) d (I d).x (I d).rw (I d).ix ((I d).ex 0) ((I d).ex 1) ((I d).ex 2) ((I d).ex 3) _ = _
    rw [S.x, S.rw, S.ix, sendB_hit d x rw ix _ _ _ _ ht j hj]
    unfold prod
    refine Finset.sum_congr rfl fun k _ => ?_
    rw [e]
    rfl

/-- The reduced row of a token whose expert is on device `d`, if `d` has at most 48 of the block's tokens. -/
theorem part_hit (S : Same I x rw ix) (h : Fin 2) (c d : Dev nD) (i : Fin 128) (j : Fin 4) (hj : wordAt ix (tok c i) = expW d j)
    (few : (Finset.univ.filter (ours d ix c)).card ≤ 48) (col : Fin 256) :
    part I h c i col = prod I x rw (tok c i) d j (colN h col) := by
  obtain ⟨s, hs⟩ := (pxEquiv c).surjective d
  obtain rfl : px s c = d := hs
  have hH : ours (px s c) ix c i := by show Home _ _; rw [hj]; exact home_exp _ j
  have hf : ∀ i, from_ c ((I c).ixOwn c) s i ↔ ours (px s c) ix c i := fun i => by
    show Home _ _ ↔ Home _ _; rw [ixOwn_apply S]
  have hu := upTo_congr hf i
  have h1 := upTo_pos (P := ours (px s c) ix c) hH
  have h2 := (upTo_le (P := ours (px s c) ix c) i).trans few
  have hr : upTo (ours (px s c) ix c) i = (⟨upTo (ours (px s c) ix c) i - 1, by omega⟩ : Fin 48).val + 1 := by simp only; omega
  generalize (⟨upTo (ours (px s c) ix c) i - 1, by omega⟩ : Fin 48) = r at hr
  unfold part
  rw [back_sum_hit c _ i s r ((hf i).mpr hH) (hu.trans hr)]
  rw [← sb_hit S h (px s c) ⟨hr, hH⟩ j hj, ← stg_apply]
  congr 2
  · exact Fin.ext (by simp only; omega)
  · exact Fin.ext (by simp only; omega)

/-- The reduced row of a token whose expert is nowhere. -/
theorem part_miss (S : Same I x rw ix) (h : Fin 2) (c : Dev nD) (i : Fin 128) (hn : ∀ d, ¬ ours d ix c i) (col : Fin 256) :
    part I h c i col = 0 := by
  unfold part
  refine back_sum_miss c _ i (fun s hs => hn (px s c) ?_) _
  show Home _ _
  rw [← ixOwn_apply S]; exact hs
end Blocks

end Cert.Moe
-- ==== Proof.Out.lean ====
/-
# The output read at a position

Every row block and column half of the output receives one reduced block on top of the shared expert's product: the device's own
block is added first, every other block when its owner's copy arrives.
-/
module

public import proofs.«01_k».proof.Proof.Blk

@[expose] public section

set_option maxRecDepth 16384

noncomputable section

namespace Cert.Moe

open Cert.KernelIdeal Cert.KernelIdeal.Gen
open Idealize.ShloMosaic
open Idealize.ShloMosaic.TcCoe

/-- Writing the 128 rows of block `d` in column half `h`: what a position reads afterwards. -/
theorem overlay_at (off : Fin 2 → ℕ) (inb : ∀ a, off a + S128x256.size a ≤ S1024x512.size a) (d : Fin 8) (h : Fin 2)
    (hoff : off = ![128 * d.val, 256 * h.val]) (o : S1024x512.Idx → EReal) (w : S128x256.Idx → EReal) (b : Fin 8) (i : Fin 128)
    (h' : Fin 2) (col : Fin 256) :
    (Rect.unit off S128x256.size inb : Rect S1024x512).overlay o w (ix2 (tok b i) (colN h' col))
      = if d = b ∧ h = h' then w (ix2 i col) else o (ix2 (tok b i) (colN h' col)) := by
  subst hoff
  have he : ∀ a : S128x256.Idx, (Rect.unit ![128 * d.val, 256 * h.val] S128x256.size inb : Rect S1024x512).emb a
      = ix2 (tok d (a 0)) (colN h (a 1)) := by
    intro a
    funext k
    apply Fin.ext
    rw [Rect.emb_apply]
    fin_cases k
    · show 128 * d.val + 1 * (a 0).val = 128 * d.val + (a 0).val; omega
    · show 256 * h.val + 1 * (a 1).val = 256 * h.val + (a 1).val; omega
  split_ifs with hc
  · obtain ⟨rfl, rfl⟩ := hc
    have e := he (ix2 i col)
    change _ = ix2 (tok d i) (colN h col) at e
    rw [← e, Rect.overlay_emb]
  · refine Rect.overlay_of_not_mem (Rect.unit ![128 * d.val, 256 * h.val] S128x256.size inb : Rect S1024x512) o w ?_
    intro hm
    refine hc ?_
    rw [Rect.mem_set_unit] at hm
    have h0 := hm 0
    have h1 := hm 1
    change 128 * d.val ≤ 128 * b.val + i.val ∧ 128 * b.val + i.val < 128 * d.val + 128 at h0
    change 256 * h.val ≤ 256 * h'.val + col.val ∧ 256 * h'.val + col.val < 256 * h.val + 256 at h1
    exact ⟨Fin.ext (by omega), Fin.ext (by omega)⟩

/-- Where the rectangles of the updates lie. -/
theorem updOff_eq : ∀ (h : Fin 2) (c : Dev nD) (k : Fin 7), updOff h c k = ![128 * (peer k c).val, 256 * h.val] := by decide +kernel
/-- Where the rectangle of the own block lies. -/
theorem ownOff_eq : ∀ (h : Fin 2) (c : Dev nD), ownOff h c = ![128 * c.val, 256 * h.val] := by decide +kernel

/-- What the rectangle of block `d` and column half `h` reads before it is written. -/
theorem overlay_old (off : Fin 2 → ℕ) (inb : ∀ a, off a + S128x256.size a ≤ S1024x512.size a) (d : Fin 8) (h : Fin 2)
    (hoff : off = ![128 * d.val, 256 * h.val]) (o : S1024x512.Idx → EReal) (i : Fin 128) (col : Fin 256) :
    o ((Rect.unit off S128x256.size inb : Rect S1024x512).emb (ix2 i col)) = o (ix2 (tok d i) (colN h col)) := by
  subst hoff
  congr 1
  funext k
  apply Fin.ext
  rw [Rect.emb_apply]
  fin_cases k
  · show 128 * d.val + 1 * i.val = 128 * d.val + i.val; omega
  · show 256 * h.val + 1 * col.val = 256 * h.val + col.val; omega

section
variable (K : Cont Ideal) (c : Dev nD) (h : Fin 2)

/-- One update. -/
theorem update_at (k : Fin 7) (o : S1024x512.Idx → EReal) (b : Fin 8) (i : Fin 128) (h' : Fin 2) (col : Fin 256) :
    (updR h c k).overlay o (k0_pay68 (F := Ideal) (fun j => o ((updR h c k).emb j)) (K.blk h (peer k c))) (ix2 (tok b i) (colN h' col))
      = o (ix2 (tok b i) (colN h' col)) + if peer k c = b ∧ h = h' then K.blk h' b (ix2 i col) else 0 := by
  rw [overlay_at (updOff h c k) (updOff_inb h c k) (peer k c) h (updOff_eq h c k)]
  split_ifs with hc
  · obtain ⟨rfl, rfl⟩ := hc
    rw [add_apply]
    exact congrArg (· + _) (overlay_old (updOff h c k) (updOff_inb h c k) (peer k c) h (updOff_eq h c k) o i col)
  · rw [add_zero]

/-- All updates of one half: a peer's block is added once. -/
theorem updated_at (ks : List (Fin 7)) (hks : ks.Nodup) (o : S1024x512.Idx → EReal) (b : Fin 8) (i : Fin 128) (h' : Fin 2) (col : Fin 256) :
    updated K c h ks o (ix2 (tok b i) (colN h' col))
      = o (ix2 (tok b i) (colN h' col)) + if (∃ k ∈ ks, peer k c = b) ∧ h = h' then K.blk h' b (ix2 i col) else 0 := by
  induction ks generalizing o with
  | nil => simp [updated]
  | cons k ks ih =>
    obtain ⟨hk, hks'⟩ := List.nodup_cons.mp hks
    rw [updated, ih hks', update_at, add_assoc]
    congr 1
    by_cases hh : h = h'
    · by_cases hp : peer k c = b
      · have hn : ¬ ∃ k' ∈ ks, peer k' c = b := by
          rintro ⟨k', hm, hk'⟩
          have := px_inj c (hk'.trans hp.symm)
          exact hk (Fin.succ_inj.mp this ▸ hm)
        rw [if_pos ⟨hp, hh⟩, if_neg fun t => hn t.1, add_zero, if_pos ⟨⟨k, List.mem_cons_self, hp⟩, hh⟩]
      · rw [if_neg fun t => hp t.1, zero_add]
        refine if_congr (and_congr_left fun _ => ?_) rfl rfl
        simp [hp]
    · rw [if_neg fun t => hh t.2, if_neg fun t => hh t.2, if_neg fun t => hh t.2, add_zero]
end

variable (I : Dev nD → Inp Ideal)

/-- The device's own block added in one half. -/
theorem ownW_at (c : Dev nD) (h : Fin 2) (o : S1024x512.Idx → EReal) (w : Vec Ideal S128x256 .f32 → FVec Ideal S128x256 .f32)
    (hw : ∀ o' i col, w o' (ix2 i col) = o' (ix2 i col) + part I h c i col) (b : Fin 8) (i : Fin 128) (h' : Fin 2) (col : Fin 256) :
    ownW h c o w (ix2 (tok b i) (colN h' col)) = o (ix2 (tok b i) (colN h' col)) + if c = b ∧ h = h' then part I h' b i col else 0 := by
  unfold ownW
  rw [overlay_at (ownOff h c) (ownOff_inb h c) c h (ownOff_eq h c)]
  split_ifs with hc
  · obtain ⟨rfl, rfl⟩ := hc
    rw [hw]
    exact congrArg (· + _) (overlay_old (ownOff h c) (ownOff_inb h c) c h (ownOff_eq h c) o i col)
  · rw [add_zero]

/-- A device is the peer of one of the seven updates exactly when it is not the device itself. -/
theorem take_all : ∀ c b : Dev nD, (∃ k ∈ take, peer k c = b) ↔ b ≠ c := by decide

/-- The output: the shared expert's product and the reduced block of the token's own block. -/
theorem outV_at (c : Dev nD) (b : Fin 8) (i : Fin 128) (h : Fin 2) (col : Fin 256) :
    outV I c (ix2 (tok b i) (colN h col)) = outS I c (ix2 (tok b i) (colN h col)) + part I h b i col := by
  unfold outV outO
  rw [updated_at _ _ _ take (by decide), updated_at _ _ _ take (by decide), ownW_at I c 1 _ _ (own1_apply I c), ownW_at I c 0 _ _ (own0_apply I c),
    blk_apply]
  simp only [take_all]
  by_cases hb : b = c
  · subst hb
    fin_cases h <;> simp
  · have hb' : ¬ c = b := fun e => hb e.symm
    fin_cases h <;> simp [hb, hb']

/-- The shared expert's product at a position. -/
theorem outS_at (c : Dev nD) (n : Fin 1024) (col : Fin 512) :
    outS I c (ix2 n col) = ∑ k : Fin 256, (I c).x (ix2 n k) * (I c).sw (ix2 k col) := by
  unfold outS
  generalize (I c).x = x
  generalize (I c).sw = w
  pointwise [k0_pay59, k0_pay1]

end Cert.Moe
-- ==== Proof.Ref.lean ====
/-
# The reference read at a position

The reference's result at a token is the shared expert's product plus a sum over all experts of which only the token's own can be
other than zero: the router's probability of that expert times the token's product with its weights. The probabilities the kernel
computes are the same, and with finite tokens and router they are finite and not negative.
-/
module

public import proofs.«01_k».proof.Proof.Out
public import proofs.«01_k».proof.Proof.Gen.ReferenceIdeal
public import proofs.«01_k».proof.Proof.Gen.ReferenceIdeal.Run

@[expose] public section

set_option maxRecDepth 16384

noncomputable section

namespace Cert.Moe

open Cert.ReferenceIdeal Cert.ReferenceIdeal.Gen
open Idealize.ShloMosaic
open Idealize.ShloMosaic.TcCoe

section
variable (x : Vec Ideal S1024x256 .bf16) (rw : Vec Ideal S256x32 .bf16) (ix : Vec Ideal S1024x1 .i32) (ew : Vec Ideal S32x256x512 .bf16)
  (sw : Vec Ideal S256x512 .bf16)

/-- The reference's router scores, as its text computes them. -/
def lgV : FVec Ideal S1024x32 .f32 :=
  Host.dotGeneral (F := Ideal) dot_S1024x256_S256x32_S1024x32_1_0_0_1_n_n none (extf .f32 x bitsLt_bf16_f32) (extf .f32 rw bitsLt_bf16_f32)
/-- The exponentials of the scores less the row maximum, as the reference's text computes them. -/
def exV : FVec Ideal S1024x32 .f32 :=
  Host.exp (subf (lgV x rw) (broadcastInDim S1024x32 ![0, 1] bcast_S1024x1_S1024x32_0_1 (broadcastInDim S1024x1 ![0] bcast_S1024_S1024x1_0 (Host.reduce FloatOps.maximumf (lgV x rw) (constant S_ .f32 0xFF800000#32) reducesTo_S1024x32_S1024_d1 h_S_))))
/-- The exponentials divided by their row sums, as the reference's text computes them. -/
def prV : FVec Ideal S1024x32 .f32 :=
  Host.divf (exV x rw) (broadcastInDim S1024x32 ![0, 1] bcast_S1024x1_S1024x32_0_1 (broadcastInDim S1024x1 ![0] bcast_S1024_S1024x1_0 (Host.reduceAdd (exV x rw) (constant S_ .f32 0x00000000#32) reducesTo_S1024x32_S1024_d1 h_S_)))
/-- The reference's whole result, as its text computes it. -/
def refV : FVec Ideal S1024x512 .f32 :=
  addf (Host.dotGeneral (F := Ideal) dot_S1024x256_S256x512_S1024x512_1_0_0_1_n_n none (extf .f32 x bitsLt_bf16_f32) (extf .f32 sw bitsLt_bf16_f32))
    (Host.reduceAdd (mulf (broadcastInDim S1024x32x512 ![0, 1, 2] bcast_S1024x32x1_S1024x32x512_0_1_2 (broadcastInDim S1024x32x1 ![0, 1] bcast_S1024x32_S1024x32x1_0_1
        (select (cmpi .eq (broadcastInDim S1024x32 ![0, 1] bcast_S1024x1_S1024x32_0_1 ix) (iotaInDim S1024x32 32 1)) (prV x rw)
          (broadcastInDim S1024x32 ![] bcast_S_S1024x32 (id (constant (F := Ideal) S_ .f32 0x00000000#32))))))
      (Host.dotGeneral (F := Ideal) dot_S1024x256_S32x256x512_S1024x32x512_1_1_0_02_n_n none (extf .f32 x bitsLt_bf16_f32) (extf .f32 ew bitsLt_bf16_f32)))
      (constant S_ .f32 0x00000000#32) reducesTo_S1024x32x512_S1024x512_d1 h_S_)
end

section Softmax
variable (x : Vec Ideal S1024x256 .bf16) (rw : Vec Ideal S256x32 .bf16)

/-- The router's score of expert `e` at token `n`. -/
def lg (n : Fin 1024) (e : Fin 32) : EReal := ∑ k : Fin 256, x (ix2 n k) * rw (ix2 k e)
/-- A token's greatest score, starting from minus infinity. -/
def mx (n : Fin 1024) : EReal := Finset.univ.fold max (Ideal.ofBits FTy.f32 0xFF800000#32) (lg x rw n)
/-- The probability of expert `e` at token `n`: its exponential divided by the sum over all experts. -/
def pr (n : Fin 1024) (e : Fin 32) : EReal := Ideal.div (Ideal.exp (lg x rw n e - mx x rw n)) (∑ e', Ideal.exp (lg x rw n e' - mx x rw n))

/-- The reference's score array at token `n` and expert `e` is the score `lg`. -/
theorem lgV_apply (n : Fin 1024) (e : Fin 32) : lgV x rw (ix2 n e) = lg x rw n e := by
  pointwise [lgV]; rfl

/-- The reference's exponential at a position is that of the score less the token's greatest score. -/
theorem exV_apply (n : Fin 1024) (e : Fin 32) : exV x rw (ix2 n e) = Ideal.exp (lg x rw n e - mx x rw n) := by
  pointwise [exV]
  simp only [lgV_apply]
  rfl

/-- The reference's probability array at token `n` and expert `e` is the probability `pr`. -/
theorem prV_apply (n : Fin 1024) (e : Fin 32) : prV x rw (ix2 n e) = pr x rw n e := by
  pointwise [prV]
  simp only [exV_apply]
  rfl

/-- The kernel's probabilities are the same. -/
theorem kernel_pr (n : Fin 1024) (e : Fin 32) : Cert.KernelIdeal.Gen.k0_pay2 (F := Ideal) x rw (ix2 n e) = pr x rw n e := by
  pointwise [Cert.KernelIdeal.Gen.k0_pay2, Cert.KernelIdeal.Gen.k0_pay1]
  rfl

variable {x rw}

/-- A sum of real numbers is real. -/
theorem real_sum {α : Type} (s : Finset α) (f : α → EReal) (h : ∀ i ∈ s, ∃ r : ℝ, f i = r) : ∃ r : ℝ, ∑ i ∈ s, f i = r :=
  Finset.sum_induction f (fun v => ∃ r : ℝ, v = r) (fun _ _ ⟨a, ha⟩ ⟨b, hb⟩ => ⟨a + b, by rw [ha, hb, EReal.coe_add]⟩) ⟨0, rfl⟩ h

/-- The float word that the maximum starts from reads as minus infinity. -/
theorem neg_inf : Ideal.ofBits FTy.f32 0xFF800000#32 = ⊥ := by simp [Ideal.ofBits, Ideal.ieee]

/-- With finite scores a token's greatest score is finite. -/
theorem mx_real {n : Fin 1024} (h : ∀ e, ∃ r : ℝ, lg x rw n e = r) : ∃ r : ℝ, mx x rw n = r := by
  have ht : mx x rw n < ⊤ := by
    refine (Finset.fold_max_lt _).mpr ⟨by rw [neg_inf]; exact bot_lt_top, fun e _ => ?_⟩
    obtain ⟨r, hr⟩ := h e
    rw [hr]; exact EReal.coe_lt_top r
  have hb : ⊥ < mx x rw n := by
    obtain ⟨r, hr⟩ := h 0
    refine lt_of_lt_of_le (EReal.bot_lt_coe r) ?_
    rw [← hr]
    exact (Finset.le_fold_max _).mpr (Or.inr ⟨0, Finset.mem_univ _, le_rfl⟩)
  exact ⟨(mx x rw n).toReal, (EReal.coe_toReal ht.ne hb.ne').symm⟩

/-- With finite scores the probabilities are real and not negative. -/
theorem pr_real {n : Fin 1024} (h : ∀ e, ∃ r : ℝ, lg x rw n e = r) (e : Fin 32) : ∃ r : ℝ, 0 ≤ r ∧ pr x rw n e = r := by
  obtain ⟨m, hm⟩ := mx_real h
  choose f hf using h
  have hx : ∀ e, Ideal.exp (lg x rw n e - mx x rw n) = ((Real.exp (f e - m) : ℝ) : EReal) := fun e => by
    rw [hm, hf, ← EReal.coe_sub, Ideal.exp_coe]
  have hs : ∑ e', Ideal.exp (lg x rw n e' - mx x rw n) = ((∑ e', Real.exp (f e' - m) : ℝ) : EReal) := by
    simp only [hx]
    exact (map_sum (⟨⟨Real.toEReal, rfl⟩, EReal.coe_add⟩ : ℝ →+ EReal) _ _).symm
  have hp : 0 < ∑ e' : Fin 32, Real.exp (f e' - m) := Finset.sum_pos (fun _ _ => Real.exp_pos _) ⟨0, Finset.mem_univ _⟩
  refine ⟨Real.exp (f e - m) / ∑ e', Real.exp (f e' - m), by positivity, ?_⟩
  rw [pr, hx, hs, Ideal.div_coe hp.ne', ← EReal.coe_mul, mul_one_div]

/-- A real number that is not negative distributes over a sum of extended reals. -/
theorem mul_sum_real {α : Type} (s : Finset α) (f : α → EReal) {r : ℝ} (hr : 0 ≤ r) : (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]
end Softmax

/-- The reference's result at a position. -/
theorem ref_apply (x : Vec Ideal S1024x256 .bf16) (rw : Vec Ideal S256x32 .bf16) (ix : Vec Ideal S1024x1 .i32) (ew : Vec Ideal S32x256x512 .bf16)
    (sw : Vec Ideal S256x512 .bf16) (n : Fin 1024) (col : Fin 512) :
    refV x rw ix ew sw (ix2 n col) = (∑ k : Fin 256, x (ix2 n k) * sw (ix2 k col))
      + ∑ e : Fin 32, (if wordAt ix n = BitVec.ofNat 32 e.val then pr x rw n e else 0) * ∑ k : Fin 256, x (ix2 n k) * ew (ix3 e k col) := by
  pointwise [refV]
  refine congrArg (_ + ·) (Finset.sum_congr rfl fun e _ => congrArg (· * _) ?_)
  rw [eq_bit, select_bit, prV_apply]
  refine if_congr Iff.rfl rfl ?_
  show Ideal.ofBits FTy.f32 0#32 = 0
  exact Ideal.ofBits_zero_f32

end Cert.Moe
-- ==== Proof.Fits.lean ====
/-
# The precondition read back

The precondition says, of the arrays on one device: every block of 128 tokens has at most 48 tokens on each device, and the tokens
and the router are real numbers.
-/
module

public import proofs.«01_k».proof.Pre_fits_KernelIdeal
public import proofs.«01_k».proof.Pre_fits_ReferenceIdeal
public import proofs.«01_k».proof.Proof.Ref
public import Idealize.ShloMosaic.Lib.ReduceAll
public import Idealize.ShloMosaic.Lib.IndicatorCount

@[expose] public section

set_option maxRecDepth 16384

noncomputable section

namespace Cert.Moe

open Idealize.ShloMosaic
open Idealize.ShloMosaic.TcCoe

/-- The precondition's side conditions, for the kernel's arguments. -/
theorem fits_facts : Cert.Pre_fits_KernelIdeal.Facts where
  bcast_S_S1024x1 := by decide
  shapeCasts_S1024x1_S8x1x128 := by decide
  bcast_S8x1x128_S8x8x128_0_1_2 := by decide
  natLt_1_32 := by decide
  reducesTo_S8x8x128_S8x8_d2 := by decide
  h_S_ := by decide
  bcast_S_S8x8 := by decide
  reducesTo_S8x8_S_d0_1 := by decide
  bitsLt_bf16_f32 := by decide
  bcast_S_S1024x256 := by decide
  reducesTo_S1024x256_S_d0_1 := by decide
  bcast_S_S256x32 := by decide
  reducesTo_S256x32_S_d0_1 := by decide

/-- The precondition's side conditions, for the reference's arguments. -/
theorem fits_facts_ref : Cert.Pre_fits_ReferenceIdeal.Facts where
  bcast_S_S1024x1 := by decide
  shapeCasts_S1024x1_S8x1x128 := by decide
  bcast_S8x1x128_S8x8x128_0_1_2 := by decide
  natLt_1_32 := by decide
  reducesTo_S8x8x128_S8x8_d2 := by decide
  h_S_ := by decide
  bcast_S_S8x8 := by decide
  reducesTo_S8x8_S_d0_1 := by decide
  bitsLt_bf16_f32 := by decide
  bcast_S_S1024x256 := by decide
  reducesTo_S1024x256_S_d0_1 := by decide
  bcast_S_S256x32 := by decide
  reducesTo_S256x32_S_d0_1 := by decide

/-- An arithmetic shift right by two is the floor of a quarter. -/
theorem shift_two (w : BitVec 32) : (IntOp.shrsi .host w 2#32).toInt = w.toInt / 4 := by
  have h : IntOp.shrsi .host w 2#32 = w.sshiftRight 2 := rfl
  rw [h, BitVec.toInt_sshiftRight, Int.shiftRight_eq_div_pow]
  rfl

/-- The float word `0x7F800000` reads as infinity. -/
theorem pos_inf : Ideal.ofBits FTy.f32 0x7F800000#32 = ⊤ := by simp [Ideal.ofBits, Ideal.ieee]

/-- A number whose absolute value is below infinity is real. -/
theorem real_of_abs {v : EReal} (h : BitVec.ofBool (decide (FloatOps.absf (F := Ideal) (φ := .f32) v < Ideal.ofBits FTy.f32 0x7F800000#32)) = 1#1) :
    ∃ r : ℝ, v = r := by
  rw [pos_inf] at h
  have hlt : max v (-v) < ⊤ := by
    by_contra hn
    have : decide (FloatOps.absf (F := Ideal) (φ := .f32) v < (⊤ : EReal)) = false := decide_eq_false hn
    rw [this] at h
    exact absurd h (by decide)
  obtain ⟨h1, h2⟩ := max_lt_iff.mp hlt
  refine ⟨v.toReal, (EReal.coe_toReal h1.ne ?_).symm⟩
  rintro rfl
  exact absurd h2 (by simp)

/-- What the precondition says. -/
structure Fit (x : Vec Ideal ⟨2, ![1024, 256]⟩ .bf16) (rw : Vec Ideal ⟨2, ![256, 32]⟩ .bf16) (ix : Vec Ideal ⟨2, ![1024, 1]⟩ .i32) : Prop where
  few : ∀ b d : Fin 8, (Finset.univ.filter (ours d ix b)).card ≤ 48
  x : ∀ n k, ∃ r : ℝ, x (ix2 n k) = r
  rw : ∀ k e, ∃ r : ℝ, rw (ix2 k e) = r

open Cert.Pre_fits_KernelIdeal in
/-- If the printed precondition evaluates to true, the tokens, the router and the indices satisfy `Fit`. -/
theorem fits_read [Facts] (x : Vec Ideal S1024x256 .bf16) (rw : Vec Ideal S256x32 .bf16) (ix : Vec Ideal S1024x1 .i32)
    (ew : Vec Ideal S4x256x512 .bf16) (sw : Vec Ideal S256x512 .bf16)
    (h : Cert.Pre_fits_KernelIdeal.fn (F := Ideal) x rw ix ew sw = fun _ => 1#1) : Fit x rw ix := by
  have h0 := congrFun h (fun a => a.elim0)
  unfold fn fn_part1 at h0
  obtain ⟨h01, h2⟩ := IntOp.andi_eq_one.1 h0
  obtain ⟨hc, hx⟩ := IntOp.andi_eq_one.1 h01
  haveI : Subsingleton S_.Idx := ⟨fun a b => funext fun k => k.elim0⟩
  refine ⟨fun b d => ?_, fun n k => ?_, fun k e => ?_⟩
  · have hb := Host.reduce_andi_all _ _ _ _ _ hc (ix2 b d)
    clear h h0 h01 hx h2 hc
    pointwise [] at hb
    rw [IndicatorCount.fold_addi_setWidth_eq_card] at hb
    have hcard := (Finset.univ.filter fun i : Fin 128 => IntOp.cmpi CmpIPredicate.eq
      (IntOp.shrsi ArithUnit.host (ix (ix2 (⟨b.val * 128 + i.val, by omega⟩ : Fin 1024) (0 : Fin 1))) 2#32) (BitVec.ofNat 32 d.val) = 1#1).card_le_univ
    rw [Fintype.card_fin] at hcard
    have he : (Finset.univ.filter (ours d ix b)) = Finset.univ.filter fun i : Fin 128 => IntOp.cmpi CmpIPredicate.eq
        (IntOp.shrsi ArithUnit.host (ix (ix2 (⟨b.val * 128 + i.val, by omega⟩ : Fin 1024) (0 : Fin 1))) 2#32) (BitVec.ofNat 32 d.val) = 1#1 := by
      refine Finset.filter_congr fun i _ => ?_
      have ht : (⟨b.val * 128 + i.val, by omega⟩ : Fin 1024) = tok b i := Fin.ext (by simp only [tok]; omega)
      have hiff : IntOp.shrsi ArithUnit.host (wordAt ix (tok b i)) 2#32 = BitVec.ofNat 32 d.val ↔ ours d ix b i := by
        rw [← toInt_inj, shift_two, toInt_ofNat_small (by omega)]
        rfl
      rw [ht, eq_bit, bit_congr hiff]
      by_cases hh : ours d ix b i <;> simp [bit, hh]
    rw [he]
    generalize (Finset.univ.filter fun i : Fin 128 => IntOp.cmpi CmpIPredicate.eq
        (IntOp.shrsi ArithUnit.host (ix (ix2 (⟨b.val * 128 + i.val, by omega⟩ : Fin 1024) (0 : Fin 1))) 2#32) (BitVec.ofNat 32 d.val) = 1#1).card = N at hb hcard ⊢
    by_contra hn
    have hf : IntOp.cmpi .sle (BitVec.ofNat 32 N) 48#32 = 0#1 := by
      simp only [IntOp.cmpi, BitVec.sle_eq_decide, toInt_ofNat_small (show N < 2 ^ 31 by omega)]
      rw [decide_eq_false (by change ¬ (N : ℤ) ≤ 48; omega)]
      rfl
    rw [hf] at hb
    exact absurd hb (by decide)
  · have hb := Host.reduce_andi_all _ _ _ _ _ hx (ix2 n k)
    clear h h0 h01 hx h2 hc
    pointwise [] at hb
    exact real_of_abs hb
  · have hb := Host.reduce_andi_all _ _ _ _ _ h2 (ix2 k e)
    clear h h0 h01 hx h2 hc
    pointwise [] at hb
    exact real_of_abs hb

end Cert.Moe
-- ==== Proof.Value.lean ====
/-
# The two results are one

At a token with an expert, the device that owns the expert computed the token's gated product, and the reference's sum over all
experts is that product; at a token with no expert of the mesh both are zero.
-/
module

public import proofs.«01_k».proof.Defs
public import proofs.«01_k».proof.Proof.Frames
public import proofs.«01_k».proof.Proof.Fits

@[expose] public section

set_option maxRecDepth 16384

noncomputable section

namespace Cert.Moe

open Cert.KernelIdeal Cert.KernelIdeal.Gen
open Idealize.ShloMosaic
open Idealize.ShloMosaic.TcCoe
open Idealize.SL.Sem

section
variable {I : Dev nD → Inp Ideal} {x : Vec Ideal S1024x256 .bf16} {rw : Vec Ideal S256x32 .bf16} {ix : Vec Ideal S1024x1 .i32}
  {ew : Vec Ideal ⟨3, ![32, 256, 512]⟩ .bf16} {sw : Vec Ideal S256x512 .bf16}

/-- The gated product is the probability times the product. -/
theorem prod_eq (ft : Fit x rw ix) (he : ∀ d j k col, (I d).ew (ix3 j k col) = ew (ix3 (expN d j) k col)) (n : Fin 1024) (d : Fin 8) (j : Fin 4)
    (col : Fin 512) : prod I x rw n d j col = pr x rw n (expN d j) * ∑ k : Fin 256, x (ix2 n k) * ew (ix3 (expN d j) k col) := by
  have hl : ∀ e, ∃ r : ℝ, lg x rw n e = r := fun e => real_sum _ _ fun k _ => by
    obtain ⟨a, ha⟩ := ft.x n k
    obtain ⟨b, hb⟩ := ft.rw k e
    exact ⟨a * b, by rw [ha, hb, EReal.coe_mul]⟩
  obtain ⟨r, hr, hp⟩ := pr_real hl (expN d j)
  rw [hp, mul_sum_real _ _ hr, prod]
  refine Finset.sum_congr rfl fun k _ => ?_
  rw [kernel_pr, hp, he, mul_assoc]

/-- The kernel's output and the reference's result agree at every position. -/
theorem out_eq_ref (S : Same I x rw ix) (hsw : ∀ c, (I c).sw = sw) (ft : Fit x rw ix)
    (he : ∀ d j k col, (I d).ew (ix3 j k col) = ew (ix3 (expN d j) k col)) (c : Dev nD) : outV I c = refV x rw ix ew sw := by
  funext p
  obtain ⟨n, q, rfl⟩ : ∃ (n : Fin 1024) (q : Fin 512), p = ix2 n q := ⟨p 0, p 1, by funext a; fin_cases a <;> rfl⟩
  obtain ⟨b, i, rfl⟩ : ∃ (b : Fin 8) (i : Fin 128), n = tok b i :=
    ⟨⟨n.val / 128, by omega⟩, ⟨n.val % 128, by omega⟩, Fin.ext (by simp only [tok]; omega)⟩
  obtain ⟨h, col, rfl⟩ : ∃ (h : Fin 2) (col : Fin 256), q = colN h col :=
    ⟨⟨q.val / 256, by omega⟩, ⟨q.val % 256, by omega⟩, Fin.ext (by simp only [colN]; omega)⟩
  rw [outV_at, outS_at, ref_apply, S.x, hsw]
  congr 1
  by_cases hh : ∃ d, ours d ix b i
  · obtain ⟨d, hd⟩ := hh
    obtain ⟨j, hj⟩ := Home.exp hd
    rw [part_hit S h b d i j hj (ft.few b d), prod_eq ft he]
    have hw : wordAt ix (tok b i) = BitVec.ofNat 32 (expN d j).val := hj.trans (expW_eq d j)
    rw [sum_one (expN d j), if_pos hw]
    intro e hne
    rw [if_neg, zero_mul]
    intro hw'
    have := congrArg BitVec.toInt (hw.symm.trans hw')
    rw [toInt_ofNat_small (by omega), toInt_ofNat_small (by omega)] at this
    exact hne (Fin.ext (by omega))
  · rw [part_miss S h b i (fun d hd => hh ⟨d, hd⟩)]
    refine (Finset.sum_eq_zero fun e _ => ?_).symm
    rw [if_neg, zero_mul]
    intro hw
    refine hh ⟨⟨e.val / 4, by omega⟩, ?_⟩
    show Home _ _
    rw [hw]
    unfold Home
    rw [toInt_ofNat_small (by omega)]
    simp only
    omega
end

/-- The value claim. -/
theorem value : Cert.algebraic_KernelIdeal_ReferenceIdeal_pre_fits_KernelIdeal (hKernelIdeal := Cert.KernelIdeal.Gen.facts)
    (hReferenceIdeal := Cert.ReferenceIdeal.Gen.facts) (hPre_fits_KernelIdeal := fits_facts) := by
  intro m g m' g' hpre hm
  letI := fits_facts
  have ft := fits_read _ _ _ _ _ (hpre 0)
  have S : Same (inp m) (m ((0 : Dev nD).tc.loc main_arg0)) (m ((0 : Dev nD).tc.loc main_arg1)) (m ((0 : Dev nD).tc.loc main_arg2)) :=
    ⟨fun c => (hm c).1.trans (hm 0).1.symm, fun c => (hm c).2.1.trans (hm 0).2.1.symm, fun c => (hm c).2.2.1.trans (hm 0).2.2.1.symm⟩
  have he : ∀ (d : Dev nD) (j : Fin 4) (k : Fin 256) (col : Fin 512), (inp m d).ew (ix3 j k col)
      = m' (((0 : Dev Cert.ReferenceIdeal.nD).tc : Thread Cert.ReferenceIdeal.nD Cert.ReferenceIdeal.τ).loc Cert.ReferenceIdeal.main_arg3) (ix3 (expN d j) k col) := by
    intro d j k col
    show m (d.tc.loc main_arg3) (ix3 j k col) = _
    rw [(hm d).2.2.2.1, Layout.block_apply]
    congr 1
    funext a
    apply Fin.ext
    rw [Layout.Tiles.idx_val]
    fin_cases a
    · show d.val * 4 + j.val = 4 * d.val + j.val; omega
    · rfl
    · rfl
  have hsw : ∀ c, (inp m c).sw = m ((0 : Dev nD).tc.loc main_arg4) := fun c => (hm c).2.2.2.2.trans (hm 0).2.2.2.2.symm
  have hv : ∀ c, outV (inp m) c = _ := out_eq_ref S hsw ft he
  refine ⟨_, (θ_run Cert.KernelIdeal.defs _ _).mono (fun r h c => ⟨((h.1 c).2.trans (hv c)), (h.1 c).1⟩) (run_main (F := Ideal) m g), ?_⟩
  refine (θ_run Cert.ReferenceIdeal.defs _ _).mono (fun r h => ⟨(h 0).1.trans ?_, (h 0).2⟩) (Cert.ReferenceIdeal.Value.run (F := Ideal) m' g')
  rw [(hm 0).1, (hm 0).2.1, (hm 0).2.2.1, (hm 0).2.2.2.2]
  rfl

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All claims, with the witnesses of the programs' and the precondition's side conditions. -/
theorem claim : Cert.Claim := ⟨Cert.Kernel.Gen.facts, Cert.KernelIdeal.Gen.facts, Cert.ReferenceIdeal.Gen.facts,
  Cert.Moe.fits_facts, Cert.Moe.fits_facts_ref,
  Cert.Moe.frame_kernel, Cert.Moe.frame_ideal, fun m g _ => Cert.Moe.frame_ideal m g trivial,
  Cert.Moe.frame_reference, fun m g _ => Cert.Moe.frame_reference m g trivial, trivial, Cert.Moe.value⟩

end Cert.Proof

end
